-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![8192, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![8192, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S2x1024x128 : Shape := ⟨3, ![2, 1024, 128]⟩
abbrev S2x6x1024x128 : Shape := ⟨4, ![2, 6, 1024, 128]⟩
abbrev S2x6x1 : Shape := ⟨3, ![2, 6, 1]⟩
abbrev S1024x1 : Shape := ⟨2, ![1024, 1]⟩
abbrev S1024x128 : Shape := ⟨2, ![1024, 128]⟩
abbrev S64x16x128 : Shape := ⟨3, ![64, 16, 128]⟩
abbrev S32x32x128 : Shape := ⟨3, ![32, 32, 128]⟩
abbrev S16x64x128 : Shape := ⟨3, ![16, 64, 128]⟩
abbrev S8x128x128 : Shape := ⟨3, ![8, 128, 128]⟩
abbrev S4x256x128 : Shape := ⟨3, ![4, 256, 128]⟩
abbrev S2x512x128 : Shape := ⟨3, ![2, 512, 128]⟩
abbrev S1x1024x128 : Shape := ⟨3, ![1, 1024, 128]⟩
abbrev S_ : Shape := ⟨0, ![]⟩
abbrev S1x1x1 : Shape := ⟨3, ![1, 1, 1]⟩
abbrev S1x1x1024x128 : Shape := ⟨4, ![1, 1, 1024, 128]⟩

abbrev nBuf : Space → Nat
  | .hbm => 2
  | .vmem => 4
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S2x1024x128, .bf16⟩
  | .local _ .vmem, ⟨3, _⟩ => ⟨S2x6x1024x128, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_291 : BitVec 32 := 1#32
  let v986 : BitVec 32 := Scalar.xori v2 c1_i32_291
  let c1_i32_293 : BitVec 32 := 1#32
  let v987 : BitVec 32 := Scalar.muli v986 c1_i32_293
  let v988 : BitVec 32 := Scalar.addi c0_i32_294 v987
  v988.toNat
def k0_dev2 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_295 : BitVec 32 := 2#32
  let v989 : BitVec 32 := Scalar.xori v2 c2_i32_295
  let c1_i32_297 : BitVec 32 := 1#32
  let v990 : BitVec 32 := Scalar.muli v989 c1_i32_297
  let v991 : BitVec 32 := Scalar.addi c0_i32_298 v990
  v991.toNat
def k0_dev3 (d0 : Dev nD) : Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_299 : BitVec 32 := 4#32
  let v992 : BitVec 32 := Scalar.xori v2 c4_i32_299
  let c1_i32_301 : BitVec 32 := 1#32
  let v993 : BitVec 32 := Scalar.muli v992 c1_i32_301
  let v994 : BitVec 32 := Scalar.addi c0_i32_302 v993
  v994.toNat
def k0_dev4 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_306 : BitVec 32 := 1#32
  let v999 : BitVec 32 := Scalar.xori v2 c1_i32_306
  let c1_i32_316 : BitVec 32 := 1#32
  let v1000 : BitVec 32 := Scalar.muli v999 c1_i32_316
  let v1001 : BitVec 32 := Scalar.addi c0_i32_317 v1000
  v1001.toNat
def k0_dev5 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_627 : BitVec 32 := 1#32
  let v1995 : BitVec 32 := Scalar.xori v2 c1_i32_627
  let c1_i32_637 : BitVec 32 := 1#32
  let v1996 : BitVec 32 := Scalar.muli v1995 c1_i32_637
  let v1997 : BitVec 32 := Scalar.addi c0_i32_638 v1996
  v1997.toNat
def k0_dev6 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_736 : BitVec 32 := 2#32
  let v2202 : BitVec 32 := Scalar.xori v2 c2_i32_736
  let c1_i32_746 : BitVec 32 := 1#32
  let v2203 : BitVec 32 := Scalar.muli v2202 c1_i32_746
  let v2204 : BitVec 32 := Scalar.addi c0_i32_747 v2203
  v2204.toNat
def k0_dev7 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_845 : BitVec 32 := 2#32
  let v2409 : BitVec 32 := Scalar.xori v2 c2_i32_845
  let c1_i32_855 : BitVec 32 := 1#32
  let v2410 : BitVec 32 := Scalar.muli v2409 c1_i32_855
  let v2411 : BitVec 32 := Scalar.addi c0_i32_856 v2410
  v2411.toNat
def k0_dev8 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_901 : BitVec 32 := 1#32
  let v2450 : BitVec 32 := Scalar.xori v2 c1_i32_901
  let c1_i32_911 : BitVec 32 := 1#32
  let v2451 : BitVec 32 := Scalar.muli v2450 c1_i32_911
  let v2452 : BitVec 32 := Scalar.addi c0_i32_912 v2451
  v2452.toNat
def k0_dev9 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_957 : BitVec 32 := 1#32
  let v2491 : BitVec 32 := Scalar.xori v2 c1_i32_957
  let c1_i32_967 : BitVec 32 := 1#32
  let v2492 : BitVec 32 := Scalar.muli v2491 c1_i32_967
  let v2493 : BitVec 32 := Scalar.addi c0_i32_968 v2492
  v2493.toNat
def k0_dev10 (d0 : Dev nD) : Nat :=
  let c0_i32_1076 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1065 : BitVec 32 := 4#32
  let v2698 : BitVec 32 := Scalar.xori v2 c4_i32_1065
  let c1_i32_1075 : BitVec 32 := 1#32
  let v2699 : BitVec 32 := Scalar.muli v2698 c1_i32_1075
  let v2700 : BitVec 32 := Scalar.addi c0_i32_1076 v2699
  v2700.toNat
def k0_dev11 (d0 : Dev nD) : Nat :=
  let c0_i32_1185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1174 : BitVec 32 := 4#32
  let v2905 : BitVec 32 := Scalar.xori v2 c4_i32_1174
  let c1_i32_1184 : BitVec 32 := 1#32
  let v2906 : BitVec 32 := Scalar.muli v2905 c1_i32_1184
  let v2907 : BitVec 32 := Scalar.addi c0_i32_1185 v2906
  v2907.toNat
def k0_dev12 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1229 : BitVec 32 := 2#32
  let v2946 : BitVec 32 := Scalar.xori v2 c2_i32_1229
  let c1_i32_1239 : BitVec 32 := 1#32
  let v2947 : BitVec 32 := Scalar.muli v2946 c1_i32_1239
  let v2948 : BitVec 32 := Scalar.addi c0_i32_1240 v2947
  v2948.toNat
def k0_dev13 (d0 : Dev nD) : Nat :=
  let c0_i32_1296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1285 : BitVec 32 := 2#32
  let v2987 : BitVec 32 := Scalar.xori v2 c2_i32_1285
  let c1_i32_1295 : BitVec 32 := 1#32
  let v2988 : BitVec 32 := Scalar.muli v2987 c1_i32_1295
  let v2989 : BitVec 32 := Scalar.addi c0_i32_1296 v2988
  v2989.toNat
def k0_dev14 (d0 : Dev nD) : Nat :=
  let c0_i32_1350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1340 : BitVec 32 := 1#32
  let v3028 : BitVec 32 := Scalar.xori v2 c1_i32_1340
  let c1_i32_1349 : BitVec 32 := 1#32
  let v3029 : BitVec 32 := Scalar.muli v3028 c1_i32_1349
  let v3030 : BitVec 32 := Scalar.addi c0_i32_1350 v3029
  v3030.toNat
def k0_dev15 (d0 : Dev nD) : Nat :=
  let c0_i32_1406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1395 : BitVec 32 := 1#32
  let v3069 : BitVec 32 := Scalar.xori v2 c1_i32_1395
  let c1_i32_1405 : BitVec 32 := 1#32
  let v3070 : BitVec 32 := Scalar.muli v3069 c1_i32_1405
  let v3071 : BitVec 32 := Scalar.addi c0_i32_1406 v3070
  v3071.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x256 : Shape := ⟨2, ![8192, 256]⟩

abbrev nBuf : Space → Nat
  | .hbm => 2
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.KernelIdeal.Net.lean ====
/-
  THE KERNEL'S ARITHMETIC, NAMED. The kernel sorts each column of a block of 1024 rows by compare-exchange stages and merges blocks of
  neighbouring devices. Here are the pieces of that arithmetic as functions of whole vectors, in the operations the kernel runs, over any
  float instance: one stage (`stage`), the stages of one level (`level`), the sort of a block (`localSort`), the merge inside a block
  (`localMerge`), and what an exchange with another device keeps (`keep`).
-/
module

public import proofs.«01_k».proof.Proof.Gen.KernelIdeal

@[expose] public section

noncomputable section

namespace Cert.KernelIdeal.Sort

open Idealize.ShloMosaic Idealize.SL.Sem
open Cert.KernelIdeal.Gen

variable {F : FTy → Type} [FloatOps F]

/-- A device's number as the kernel computes it from its identifier. -/
def devWord (d : Dev nD) : BitVec 32 := Scalar.remsi (Scalar.divsi (Dev.word d) 1#32) 8#32

/-- The row numbers of a block. -/
def rows : IVec S1024x1 32 := iota .tc S1024x1 32 [0] iota_S1024x1_d0_w32

/-- Which rows have one of the bits of `j` set. -/
def rowBit (j : BitVec 32) : IVec S1024x1 1 := cmpi .ne (andi rows (broadcast S1024x1 j)) (broadcast S1024x1 0#32)

/-- Whether the device word `p` has one of the bits of `m` set, at every row. -/
def devBit (p m : BitVec 32) : IVec S1024x1 1 := broadcast S1024x1 (Scalar.cmpi .ne (Scalar.andi p m) 0#32)

/-- A mask of rows as a mask of a block's elements. -/
def wide (b : IVec S1024x1 1) : IVec S1024x128 1 :=
  broadcastTo S1024x128 (shapeCast S1024x1 b shapeCasts_S1024x1_S1024x1) broadcasts_S1024x1_S1024x128

/-- The rows' partners at a distance below 8: the rows rotated down where the row's bit is set, up where it is clear. -/
def partnerNear (up down : BitVec 32) (v : FVec F S1024x128 .f32) : FVec F S1024x128 .f32 :=
  select (wide (rowBit down)) (dynamicRotate 0 down none v rotates_S1024x128_d0) (dynamicRotate 0 up none v rotates_S1024x128_d0)

/-- The rows' partners at a distance from 8 on: the rows in groups of twice the distance `j`, each group rotated by `j`. -/
def partnerFar (g w : ℕ) (j : BitVec 32) (h₁ : S1024x128.ShapeCasts ⟨3, ![g, w, 128]⟩) (h₂ : (⟨3, ![g, w, 128]⟩ : Shape).Rotates 1 none)
    (h₃ : (⟨3, ![g, w, 128]⟩ : Shape).ShapeCasts S1024x128) (v : FVec F S1024x128 .f32) : FVec F S1024x128 .f32 :=
  shapeCast S1024x128 (dynamicRotate 1 j none (shapeCast ⟨3, ![g, w, 128]⟩ v h₁) h₂) h₃

/-- The rows' partners at distance `2 ^ s`. -/
def partnerAt : ℕ → FVec F S1024x128 .f32 → FVec F S1024x128 .f32
  | 0 => partnerNear 1023#32 1#32
  | 1 => partnerNear 1022#32 2#32
  | 2 => partnerNear 1020#32 4#32
  | 3 => partnerFar 64 16 8#32 shapeCasts_S1024x128_S64x16x128 rotates_S64x16x128_d1 shapeCasts_S64x16x128_S1024x128
  | 4 => partnerFar 32 32 16#32 shapeCasts_S1024x128_S32x32x128 rotates_S32x32x128_d1 shapeCasts_S32x32x128_S1024x128
  | 5 => partnerFar 16 64 32#32 shapeCasts_S1024x128_S16x64x128 rotates_S16x64x128_d1 shapeCasts_S16x64x128_S1024x128
  | 6 => partnerFar 8 128 64#32 shapeCasts_S1024x128_S8x128x128 rotates_S8x128x128_d1 shapeCasts_S8x128x128_S1024x128
  | 7 => partnerFar 4 256 128#32 shapeCasts_S1024x128_S4x256x128 rotates_S4x256x128_d1 shapeCasts_S4x256x128_S1024x128
  | 8 => partnerFar 2 512 256#32 shapeCasts_S1024x128_S2x512x128 rotates_S2x512x128_d1 shapeCasts_S2x512x128_S1024x128
  | _ => partnerFar 1 1024 512#32 shapeCasts_S1024x128_S1x1024x128 rotates_S1x1024x128_d1 shapeCasts_S1x1024x128_S1024x128

/-- The word `2 ^ s`, for `s` up to 9. -/
def bitWord : ℕ → BitVec 32
  | 0 => 1#32 | 1 => 2#32 | 2 => 4#32 | 3 => 8#32 | 4 => 16#32 | 5 => 32#32 | 6 => 64#32 | 7 => 128#32 | 8 => 256#32 | _ => 512#32

/-- One stage at distance `2 ^ s`: each row keeps the greater or the lesser of its element and its partner's, the greater where exactly
    one of the row's bit `s` and the direction `dir` is set. -/
def stage (dir : IVec S1024x1 1) (s : ℕ) (v : FVec F S1024x128 .f32) : FVec F S1024x128 .f32 :=
  select (wide (xori (rowBit (bitWord s)) dir)) (maximumf v (partnerAt s v)) (minimumf v (partnerAt s v))

/-- The stages at the distances `2 ^ (l - 1)`, …, `1`. -/
def level (dir : IVec S1024x1 1) : ℕ → FVec F S1024x128 .f32 → FVec F S1024x128 .f32
  | 0, v => v
  | s + 1, v => level dir s (stage dir s v)

/-- The direction of level `l + 1` of the sort of a block: the row's bit `l + 1`, and at the last level the device's bit 0. -/
def sortDir (p : BitVec 32) : ℕ → IVec S1024x1 1
  | 0 => rowBit 2#32 | 1 => rowBit 4#32 | 2 => rowBit 8#32 | 3 => rowBit 16#32 | 4 => rowBit 32#32 | 5 => rowBit 64#32
  | 6 => rowBit 128#32 | 7 => rowBit 256#32 | 8 => rowBit 512#32 | _ => devBit p 1#32

/-- The first `l` levels of the sort of a block. -/
def sortLevels (p : BitVec 32) : ℕ → FVec F S1024x128 .f32 → FVec F S1024x128 .f32
  | 0, v => v
  | l + 1, v => level (sortDir p l) (l + 1) (sortLevels p l v)

/-- The sort of a block. -/
def localSort (p : BitVec 32) (v : Vec F S1024x128 .f32) : FVec F S1024x128 .f32 :=
  sortLevels p 10 (shapeCast S1024x128 v shapeCasts_S1024x128_S1024x128)

/-- The merge inside a block, its direction the device's bit `m`. -/
def localMerge (p m : BitVec 32) (v : FVec F S1024x128 .f32) : FVec F S1024x128 .f32 := level (devBit p m) 10 v

/-- A block as it is sent. -/
def sent (v : FVec F S1024x128 .f32) : FVec F S1024x128 .bf16 := truncf .bf16 v bitsLt_bf16_f32

/-- What a device keeps in an exchange: of its element and the one received, the greater where exactly one of the device's bits `a` and `b`
    is set, else the lesser. -/
def keep (p a b : BitVec 32) (v : FVec F S1024x128 .f32) (r : Vec F S1x1x1024x128 .bf16) : FVec F S1024x128 .f32 :=
  select (xori (cmpf .olt (sent v) (shapeCast S1024x128 r shapeCasts_S1x1x1024x128_S1024x128))
      (broadcast S1024x128 (Scalar.xori (Scalar.cmpi .ne (Scalar.andi p a) 0#32) (Scalar.cmpi .ne (Scalar.andi p b) 0#32))))
    v (extf .f32 (shapeCast S1024x128 r shapeCasts_S1x1x1024x128_S1024x128) bitsLt_bf16_f32)

end Cert.KernelIdeal.Sort
-- ==== Proof.KernelIdeal.Clean.lean ====
/-
  THE KERNEL'S BODY, NAMED. The body in the operations it runs, with its two halves `h` (columns 0–127 and 128–255) and its six exchanges
  `s` as parameters: `send h s` writes half `h`'s block to its staging buffer and starts the copy to the peer of exchange `s`; `receive h s`
  waits for that copy to have left and for the peer's to have arrived, and reads it. `body_eq`: the printed body is this one.
-/
module

public import proofs.«01_k».proof.Proof.KernelIdeal.Net
public import Idealize.ShloMosaic.Lib.Tactic
public import proofs.«01_k».proof.Proof.Gen.KernelIdeal.Skeleton

@[expose] public section

noncomputable section

namespace Cert.KernelIdeal.Sort

open Idealize.ShloMosaic Idealize.SL.Sem
open Cert.KernelIdeal.Gen

variable {F : FTy → Type} [FloatOps F]

/-- The device whose number differs from `d`'s in the bits of `m`. -/
def peerVal (m : BitVec 32) (d : Dev nD) : ℕ :=
  (Scalar.addi 0#32 (Scalar.muli (Scalar.xori (Scalar.remsi (Scalar.divsi (Dev.word d) 1#32) 8#32) m) 1#32)).toNat

/-- The bit in which the peers of exchange `s` differ. -/
def exBit : Fin 6 → BitVec 32
  | 0 => 1#32 | 1 => 2#32 | 2 => 1#32 | 3 => 4#32 | 4 => 2#32 | 5 => 1#32

/-- The bit that, with `exBit`, gives the direction of exchange `s`. -/
def exDir : Fin 6 → BitVec 32
  | 0 => 2#32 | 1 => 4#32 | 2 => 4#32 | 3 => 8#32 | 4 => 8#32 | 5 => 8#32

/-- The number with bit 0 changed is a device's. -/
theorem peer1_lt (d : Dev nD) : peerVal 1#32 d < nD := k0_dev1_lt d
/-- The number with bit 1 changed is a device's. -/
theorem peer2_lt (d : Dev nD) : peerVal 2#32 d < nD := k0_dev2_lt d
/-- The number with bit 2 changed is a device's. -/
theorem peer4_lt (d : Dev nD) : peerVal 4#32 d < nD := k0_dev3_lt d

/-- The peer's number in any exchange is a device's. -/
theorem peer_lt : ∀ (s : Fin 6) (d : Dev nD), peerVal (exBit s) d < nD := by decide +kernel

/-- The peer of device `d` in exchange `s`. -/
def peer (s : Fin 6) (d : Dev nD) : Dev nD := ⟨peerVal (exBit s) d, peer_lt s d⟩

/-- Each half of the columns lies within the block. -/
theorem inb_x : ∀ h : Fin 2, ∀ a, (![0, 128 * h.val] : Fin 2 → ℕ) a + S1024x128.size a ≤ S1024x256.size a := by decide
/-- Each half lies within the send buffer. -/
theorem inb_sbuf : ∀ h : Fin 2, ∀ a, (![h.val, 0, 0] : Fin 3 → ℕ) a + S1x1024x128.size a ≤ S2x1024x128.size a := by decide
/-- Each exchange's place lies within the receive buffer. -/
theorem inb_recv : ∀ (h : Fin 2) (s : Fin 6), ∀ a, (![h.val, s.val, 0, 0] : Fin 4 → ℕ) a + S1x1x1024x128.size a ≤ S2x6x1024x128.size a := by
  decide
/-- Each exchange's semaphore lies within its array. -/
theorem inb_sems : ∀ (h : Fin 2) (s : Fin 6), ∀ a, (![h.val, s.val, 0] : Fin 3 → ℕ) a + S1x1x1.size a ≤ S2x6x1.size a := by decide

/-- The columns of half `h`. -/
abbrev xRect (h : Fin 2) : Rect S1024x256 := Rect.unit (s := S1024x256) ![0, 128 * h.val] S1024x128.size (inb_x h)
/-- Half `h` of the send buffer. -/
abbrev sbufRect (h : Fin 2) : Rect S2x1024x128 := Rect.unit (s := S2x1024x128) ![h.val, 0, 0] S1x1024x128.size (inb_sbuf h)
/-- The place of exchange `s` of half `h` in the receive buffer. -/
abbrev recvRect (h : Fin 2) (s : Fin 6) : Rect S2x6x1024x128 :=
  Rect.unit (s := S2x6x1024x128) ![h.val, s.val, 0, 0] S1x1x1024x128.size (inb_recv h s)

/-- A half of the send buffer has rows of packed pairs. -/
theorem packed_sbuf : ∀ h : Fin 2, (sbufRect h).PackedRows (EltTy.packing .bf16) := by decide
/-- A half of the send buffer is made of whole words. -/
theorem words_sbuf : ∀ h : Fin 2, (sbufRect h).WholeWords (EltTy.packing .bf16) := by decide
/-- A place of the receive buffer is made of whole words. -/
theorem words_recv : ∀ (h : Fin 2) (s : Fin 6), (recvRect h s).WholeWords (EltTy.packing .bf16) := by decide

/-- The semaphore of half `h` and exchange `s` in an array of them. -/
abbrev semAt (a : DmaSems sig S2x6x1) (h : Fin 2) (s : Fin 6) : DmaSem sig :=
  ((a.slice (Rect.unit (s := S2x6x1) ![h.val, s.val, 0] S1x1x1.size (inb_sems h s))).squeeze S_ squeezes_S1x1x1_S_).sem

/-- Half `h` of the send buffer, as a block. -/
abbrev sbufAt (b : Memref sig .tc .vmem S2x1024x128 .bf16) (h : Fin 2) : Memref sig .tc .vmem S1024x128 .bf16 :=
  (b.slice (sbufRect h) (fun _ => rfl)).squeeze S1024x128 squeezes_S1x1024x128_S1024x128

/-- The place of exchange `s` of half `h` in the receive buffer, as a block. -/
abbrev recvAt (b : Memref sig .tc .vmem S2x6x1024x128 .bf16) (h : Fin 2) (s : Fin 6) : Memref sig .tc .vmem S1024x128 .bf16 :=
  (b.slice (recvRect h s) (fun _ => rfl)).squeeze S1024x128 squeezes_S1x1x1024x128_S1024x128

section body

variable (arg0 : Memref sig .tc .vmem S1024x256 .f32) (arg1 : Memref sig .tc .vmem S1024x256 .f32) (harg1 : arg1.IsWhole)
  (arg2 : Memref sig .tc .vmem S2x1024x128 .bf16) (harg2 : arg2.IsWhole) (arg3 : Memref sig .tc .vmem S2x6x1024x128 .bf16)
  (harg3 : arg3.IsWhole) (arg4 : DmaSems sig S2x6x1) (arg5 : DmaSems sig S2x6x1)

/-- Half `h` of the input. -/
def loadX (h : Fin 2) : Prog (TpuEff nD τ sig (Elt F) Λ₀ .tc) (Vec F S1024x128 .f32) :=
  Prog.lift (.load arg0 (xRect h).toLoadRect (View.loadsAt_vmem h_S1024x128))

/-- Half `h` of the output, written. -/
def storeOut (h : Fin 2) (v : FVec F S1024x128 .f32) : Prog (TpuEff nD τ sig (Elt F) Λ₀ .tc) PUnit := do
  let _ : Vec F S1024x128 .f32 ← Prog.lift (.load arg1 (xRect h).toLoadRect (View.loadsAt_vmem h_S1024x128))
  Prog.lift (.store arg1 (xRect h) v Finset.univ (View.stores_vmem_bits_univ h_S1024x128 rfl) (.inl rfl))

/-- Half `h`'s block to the send buffer, and from there on its way to the peer of exchange `s`. -/
def send (d : Dev nD) (h : Fin 2) (s : Fin 6) (v : FVec F S1024x128 .f32) : Prog (TpuEff nD τ sig (Elt F) Λ₀ .tc) PUnit := do
  let _ : Vec F S1x1024x128 .bf16 ← Prog.lift (.load arg2 (sbufRect h).toLoadRect (View.loadsAt_vmem h_S1x1024x128))
  Prog.lift (.store arg2 (sbufRect h) (shapeCast S1x1024x128 (sent v) shapeCasts_S1024x128_S1x1024x128) Finset.univ
    (View.stores_vmem h_S1x1024x128 (harg2.storeExact_slice rfl _ (packed_sbuf h)) (fun _ => rfl)) (.inl rfl))
  Prog.lift (.enqueueDma (sbufAt arg2 h) (.remote (Dev.tc (peer s d)) (recvAt arg3 h s) (.dma (semAt arg4 h s)))
    (.dma (semAt arg5 h s)) ((harg2.wordExact_slice rfl _ (words_sbuf h)).reshape _ _) ((harg3.wordExact_slice rfl _ (words_recv h s)).reshape _ _)
    ⟨⟨rfl, Or.inl rfl⟩, trivial⟩)

/-- The wait for the copy of exchange `s` to have left, and for the peer's to have arrived; then what arrived. -/
def receive (h : Fin 2) (s : Fin 6) : Prog (TpuEff nD τ sig (Elt F) Λ₀ .tc) (Vec F S1x1x1024x128 .bf16) := do
  Prog.lift (.waitDma2 (semAt arg4 h s) (recvAt arg3 h s) (sbufAt arg2 h) ((harg3.wordExact_slice rfl _ (words_recv h s)).reshape _ _)
    ((harg2.wordExact_slice rfl _ (words_sbuf h)).reshape _ _))
  Prog.lift (.waitDma2 (semAt arg5 h s) (sbufAt arg2 h) (recvAt arg3 h s) ((harg2.wordExact_slice rfl _ (words_sbuf h)).reshape _ _)
    ((harg3.wordExact_slice rfl _ (words_recv h s)).reshape _ _))
  Prog.lift (.load arg3 (recvRect h s).toLoadRect (View.loadsAt_vmem h_S1x1x1024x128))

/-- The rendezvous with the three devices exchanged with. -/
def meet (d : Dev nD) : Prog (TpuEff nD τ sig (Elt F) Λ₀ .tc) PUnit := do
  semSignalWord (peer 0 d) (SemArray.scalar (sig.barrier 0 rfl) : Sems sig S_).sem 1#32
  semSignalWord (peer 1 d) (SemArray.scalar (sig.barrier 0 rfl) : Sems sig S_).sem 1#32
  semSignalWord (peer 3 d) (SemArray.scalar (sig.barrier 0 rfl) : Sems sig S_).sem 1#32
  semWaitWord (SemArray.scalar (sig.barrier 0 rfl) : Sems sig S_).sem 3#32

/-- The body. -/
def body : Prog (TpuEff nD τ sig (Elt F) Λ₀ .tc) PUnit := do
  let d : Dev nD ← Prog.lift .deviceId
  let x0 ← loadX arg0 0
  let a0 := localSort (devWord d) x0
  meet d
  send arg2 harg2 arg3 harg3 arg4 arg5 d 0 0 a0
  let x1 ← loadX arg0 1
  let b0 := localSort (devWord d) x1
  send arg2 harg2 arg3 harg3 arg4 arg5 d 1 0 b0
  let r ← receive arg2 harg2 arg3 harg3 arg4 arg5 0 0
  let a1 := localMerge (devWord d) 2#32 (keep (devWord d) 1#32 2#32 a0 r)
  send arg2 harg2 arg3 harg3 arg4 arg5 d 0 1 a1
  let r ← receive arg2 harg2 arg3 harg3 arg4 arg5 1 0
  let b1 := localMerge (devWord d) 2#32 (keep (devWord d) 1#32 2#32 b0 r)
  send arg2 harg2 arg3 harg3 arg4 arg5 d 1 1 b1
  let r ← receive arg2 harg2 arg3 harg3 arg4 arg5 0 1
  let a2 := keep (devWord d) 2#32 4#32 a1 r
  send arg2 harg2 arg3 harg3 arg4 arg5 d 0 2 a2
  let r ← receive arg2 harg2 arg3 harg3 arg4 arg5 1 1
  let b2 := keep (devWord d) 2#32 4#32 b1 r
  send arg2 harg2 arg3 harg3 arg4 arg5 d 1 2 b2
  let r ← receive arg2 harg2 arg3 harg3 arg4 arg5 0 2
  let a3 := localMerge (devWord d) 4#32 (keep (devWord d) 1#32 4#32 a2 r)
  send arg2 harg2 arg3 harg3 arg4 arg5 d 0 3 a3
  let r ← receive arg2 harg2 arg3 harg3 arg4 arg5 1 2
  let b3 := localMerge (devWord d) 4#32 (keep (devWord d) 1#32 4#32 b2 r)
  send arg2 harg2 arg3 harg3 arg4 arg5 d 1 3 b3
  let r ← receive arg2 harg2 arg3 harg3 arg4 arg5 0 3
  let a4 := keep (devWord d) 4#32 8#32 a3 r
  send arg2 harg2 arg3 harg3 arg4 arg5 d 0 4 a4
  let r ← receive arg2 harg2 arg3 harg3 arg4 arg5 1 3
  let b4 := keep (devWord d) 4#32 8#32 b3 r
  send arg2 harg2 arg3 harg3 arg4 arg5 d 1 4 b4
  let r ← receive arg2 harg2 arg3 harg3 arg4 arg5 0 4
  let a5 := keep (devWord d) 2#32 8#32 a4 r
  send arg2 harg2 arg3 harg3 arg4 arg5 d 0 5 a5
  let r ← receive arg2 harg2 arg3 harg3 arg4 arg5 1 4
  let b5 := keep (devWord d) 2#32 8#32 b4 r
  send arg2 harg2 arg3 harg3 arg4 arg5 d 1 5 b5
  let r ← receive arg2 harg2 arg3 harg3 arg4 arg5 0 5
  storeOut arg1 0 (localMerge (devWord d) 8#32 (keep (devWord d) 1#32 8#32 a5 r))
  let r ← receive arg2 harg2 arg3 harg3 arg4 arg5 1 5
  storeOut arg1 1 (localMerge (devWord d) 8#32 (keep (devWord d) 1#32 8#32 b5 r))

/-- The printed body is this one. -/
theorem body_eq (harg0 : arg0.IsWhole) :
    cc0_body (F := F) arg0 harg0 arg1 harg1 arg2 harg2 arg3 harg3 arg4 arg5 = body arg0 arg1 arg2 harg2 arg3 harg3 arg4 arg5 := by
  sl_kernel_rfl

end body

end Cert.KernelIdeal.Sort
-- ==== Proof.KernelIdeal.Protocol.lean ====
/-
  THE PROTOCOL. Eight devices; device `c` exchanges with the three devices whose number differs from its own in bit 0, 1 or 2.

  * Barrier cell of `c`: three duties, one unit each, duty `d` paid by the device `near d c`. It hands `c` the places in that device's
    receive buffer that `c` writes, at any contents. `c` waits for three.
  * Send cell `(c, h, s)`: one duty, paid by the copy of half `h` in exchange `s` when it has left; it hands back half `h` of the send
    buffer. `c` waits for it before it writes that half again.
  * Receive cell `(c, h, s)`: one duty, paid by the peer's copy; it hands place `(h, s)` of `c`'s receive buffer, holding the peer's block
    rounded to bf16. `c` waits for it and reads.

  A device owes its peers three barrier units and twelve copies, and pays them in program order, exchange `(h, s)` being the `2 s + h`-th: it
  waits at its barrier owing the twelve copies, and for what exchange `(h, s)` brings owing later exchanges only. So the levels are: send and
  staging cells 0, barrier 1, receive cell `(h, s)` `2 + (2 s + h)`.
-/
module

public import proofs.«01_k».proof.Proof.KernelIdeal.Clean
public import proofs.«01_k».proof.Proof.Gen.KernelIdeal.Launch
public import Idealize.ShloMosaic.Lib.Pipeline.Launch
public import Idealize.ShloMosaic.Lib.Pipeline.Kit
public import Idealize.ShloMosaic.Lib.ValueIdx

@[expose] public section

noncomputable section

namespace Cert.KernelIdeal.Sort

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: rounds of at most three duties on every cell. -/
abbrev UB : Type := URounds (GSem nD τ sig) (Fin 3)
/-- The staging's ghost state and the protocol's. -/
abbrev UU : Type := UR sig nD τ × UB

local notation "𝕄" => MT nD τ sig Unit (Elt F) ℕ UU ℕ

/-- The staging's place in the ghost state. -/
abbrev EP : Emb (UR sig nD τ) (MT nD τ sig Unit (Elt F) ℕ UU ℕ) := embL
/-- The protocol's place in it. -/
abbrev ER : Emb UB (MT nD τ sig Unit (Elt F) ℕ UU ℕ) := embR

/-! ## The devices -/

/-- An exchange: the half and the step. -/
abbrev Ex : Type := Fin 2 × Fin 6

/-- The exchange whose peer is `near d`. -/
def nearEx : Fin 3 → Fin 6
  | 0 => 0 | 1 => 1 | 2 => 3
/-- Which of the three peers an exchange is with. -/
def exNear : Fin 6 → Fin 3
  | 0 => 0 | 1 => 1 | 2 => 0 | 3 => 2 | 4 => 1 | 5 => 0

/-- The device whose number differs from `c`'s in bit `d`. -/
abbrev near (d : Fin 3) (c : Dev nD) : Dev nD := peer (nearEx d) c

/-- The peer of exchange `s` is one of three neighbours. -/
theorem peer_near : ∀ (s : Fin 6) (c : Dev nD), peer s c = near (exNear s) c := by decide +kernel
/-- The peer's peer is the device itself. -/
theorem peer_peer : ∀ (s : Fin 6) (c : Dev nD), peer s (peer s c) = c := by decide +kernel

/-- The peers of an exchange, exchanged. -/
def swap (s : Fin 6) : Dev nD ≃ Dev nD := ⟨peer s, peer s, peer_peer s, peer_peer s⟩

/-! ## The cells -/

/-- The send buffer. -/
abbrev sM : Memref sig .tc .vmem S2x1024x128 .bf16 := Memref.whole cc0_scratch0
/-- The receive buffer. -/
abbrev rM : Memref sig .tc .vmem S2x6x1024x128 .bf16 := Memref.whole cc0_scratch1
/-- The argument's staging buffer. -/
abbrev xM : Memref sig .tc .vmem S1024x256 .f32 := Memref.whole cc0_stg0_0
/-- The result's staging buffer. -/
abbrev oM : Memref sig .tc .vmem S1024x256 .f32 := Memref.whole cc0_stg1_0

/-- The barrier semaphore. -/
abbrev barS : Sem sig := (SemArray.scalar (sig.barrier 0 rfl) : Sems sig S_).sem
/-- The semaphore of the copy sent in exchange `x`. -/
abbrev sSem (x : Ex) : DmaSem sig := semAt cc0_scratch2 x.1 x.2
/-- The semaphore of the copy received in exchange `x`. -/
abbrev rSem (x : Ex) : DmaSem sig := semAt cc0_scratch3 x.1 x.2

/-- The barrier cell of device `c`. -/
abbrev barCell (c : Dev nD) : GSem nD τ sig := ((c : Thread nD τ), .reg barS)
/-- The send cell of exchange `x` on device `c`. -/
abbrev sendCell (c : Dev nD) (x : Ex) : GSem nD τ sig := ((c : Thread nD τ), .dma (sSem x))
/-- The receive cell of exchange `x` on device `c`. -/
abbrev recvCell (c : Dev nD) (x : Ex) : GSem nD τ sig := ((c : Thread nD τ), .dma (rSem x))

/-- The kernel's own semaphores: `false` for a send, `true` for a receive. -/
abbrev osem : Bool × Ex → SemLoc sig := fun k => if k.1 then .dma (rSem k.2) else .dma (sSem k.2)
/-- All of the protocol's: the barrier's too. -/
abbrev csem : Unit ⊕ (Bool × Ex) → SemLoc sig := Sum.elim (fun _ => .reg barS) osem
/-- A cell: a device and one of the protocol's semaphores. -/
abbrev kcell (ck : Dev nD × (Unit ⊕ (Bool × Ex))) : GSem nD τ sig := ((ck.1 : Thread nD τ), csem ck.2)

/-- What a semaphore is for. -/
inductive Role where
  | bar | send (x : Ex) | recv (x : Ex) | other
  deriving DecidableEq

/-- What each semaphore is for, by its number. -/
def role : SemLoc sig → Role
  | .reg s => if s = barS then .bar else .other
  | .dma q => if q.val < 2 then .other
      else if q.val < 14 then .send (Fin.ofNat 2 ((q.val - 2) / 6), Fin.ofNat 6 ((q.val - 2) % 6))
      else .recv (Fin.ofNat 2 ((q.val - 14) / 6), Fin.ofNat 6 ((q.val - 14) % 6))

/-- The barrier semaphore is for the barrier. -/
theorem role_bar : role (.reg barS) = .bar := by decide +kernel
/-- The send semaphore of `x` is for sending in `x`. -/
theorem role_send : ∀ x : Ex, role (.dma (sSem x)) = .send x := by decide +kernel
/-- The receive semaphore of `x` is for receiving in `x`. -/
theorem role_recv : ∀ x : Ex, role (.dma (rSem x)) = .recv x := by decide +kernel

/-- What a copy of one half counts. -/
abbrev N : ℕ := (sbufAt sM 0).view.dmaCredit
/-- A copy counts something. -/
theorem N_pos : 0 < N := View.dmaCredit_pos _ (by decide)
/-- A copy counts the same from either half of the send buffer. -/
theorem N_sbuf (h : Fin 2) : (sbufAt sM h).view.dmaCredit = N := rfl
/-- And the same at its destination. -/
theorem N_recv (x : Ex) : (recvAt rM x.1 x.2).view.dmaCredit = N := rfl

/-! ## Contents -/

/-- `keep` with what arrived as a block. -/
def keepWith (p a b : BitVec 32) (v : FVec F S1024x128 .f32) (t : FVec F S1024x128 .bf16) : FVec F S1024x128 .f32 :=
  select (xori (cmpf .olt (sent v) t)
      (broadcast S1024x128 (Scalar.xori (Scalar.cmpi .ne (Scalar.andi p a) 0#32) (Scalar.cmpi .ne (Scalar.andi p b) 0#32))))
    v (extf .f32 t)

/-- What follows an exchange. -/
def mergeAfter (p : BitVec 32) : Fin 6 → FVec F S1024x128 .f32 → FVec F S1024x128 .f32
  | 0 => localMerge p 2#32 | 2 => localMerge p 4#32 | 5 => localMerge p 8#32
  | 1 => id | 3 => id | 4 => id

/-- An exchange by its number. -/
abbrev ex (s : ℕ) : Fin 6 := Fin.ofNat 6 s

/-- Half `h` of a block. -/
def half (h : Fin 2) (x : FVec F S1024x256 .f32) : FVec F S1024x128 .f32 := fun i => x ((xRect h).emb i)

variable (X : Dev nD → FVec F S1024x256 .f32)

/-- Half `h` on device `c` before exchange `s`, from the blocks `X` of all devices. -/
def chunk (h : Fin 2) : ℕ → Dev nD → FVec F S1024x128 .f32
  | 0, c => localSort (devWord c) (half h (X c))
  | s + 1, c => mergeAfter (devWord c) (ex s) (keepWith (devWord c) (exBit (ex s)) (exDir (ex s)) (chunk h s c) (sent (chunk h s (peer (ex s) c))))

/-- What exchange `x` brings device `c`. -/
def brought (c : Dev nD) (x : Ex) : FVec F S1024x128 .bf16 := sent (chunk X x.1 x.2.val (peer x.2 c))

/-- The result on device `c`. -/
def outAt (c : Dev nD) : FVec F S1024x256 .f32 := fun i =>
  chunk X (Fin.ofNat 2 ((i 1).val / 128)) 6 c
    (ValueIdx.ix2 (i 0) (⟨(i 1).val % 128, Nat.mod_lt _ (by decide)⟩ : Fin 128))

/-- Half `h` of the send buffer of device `c`, at contents `f`. -/
def sbufPts (c : Dev nD) (h : Fin 2) (f : Buf (Elt F) ((sbufAt sM h).view.loc (c : Thread nD τ))) : sProp 𝕄 :=
  (sbufAt sM h).view.loc (c : Thread nD τ) ↦[(sbufAt sM h).view.set]{fullShare} f
/-- Place `x` of the receive buffer of device `c`, at contents `f`. -/
def slotPts (c : Dev nD) (x : Ex) (f : Buf (Elt F) ((recvAt rM x.1 x.2).view.loc (c : Thread nD τ))) : sProp 𝕄 :=
  (recvAt rM x.1 x.2).view.loc (c : Thread nD τ) ↦[(recvAt rM x.1 x.2).view.set]{fullShare} f

omit [FloatOps F] in
instance sbufPts_storable (c : Dev nD) (h : Fin 2) (f) : BI.Storable (upEmb : UEmb _ 𝕄) (sbufPts (F := F) c h f) := by unfold sbufPts; infer_instance
omit [FloatOps F] in
instance slotPts_storable (c : Dev nD) (x : Ex) (f) : BI.Storable (upEmb : UEmb _ 𝕄) (slotPts (F := F) c x f) := by unfold slotPts; infer_instance

/-! ## The schedule -/

/-- The exchanges with the peer `d`. -/
abbrev exsWith (d : Fin 3) : Finset Ex := Finset.univ.filter fun x => exNear x.2 = d

/-- What the peer `d` of `c` hands it at the rendezvous: the places of its receive buffer that `c` writes. -/
def barPay (c : Dev nD) (d : Fin 3) : sProp 𝕄 := bigSep (exsWith d) fun x => iprop(∃ f, slotPts (near d c) x f)
/-- What a copy that has left hands back: the half it read. -/
def sendPay (c : Dev nD) (x : Ex) : sProp 𝕄 := iprop(∃ f, sbufPts c x.1 f)
/-- What a copy that has arrived hands: the place, holding what was brought. -/
def recvPay (c : Dev nD) (x : Ex) : sProp 𝕄 :=
  iprop(∃ f, ⌜(recvAt rM x.1 x.2).view.read (Elt F) f = brought X c x⌝ ∗ slotPts c x f)

/-- The schedule: one round. -/
def Rd : Rounds.Schedule (GSem nD τ sig) (Fin 3) 𝕄 where
  duties g r := if r = 0 ∧ g.1.2 = .tc then (match role g.2 with | .bar => Finset.univ | .other => ∅ | _ => {0}) else ∅
  unitless _ := False
  amount g _ _ := match role g.2 with | .bar => 1 | _ => N
  payload g _ d := match role g.2 with
    | .bar => barPay g.1.1 d | .send x => sendPay g.1.1 x | .recv x => recvPay X g.1.1 x | .other => iprop(emp)
  amount_pos g _ _ _ := by
    cases role g.2 <;> first | exact Nat.one_pos | exact N_pos

instance barPay_storable (c : Dev nD) (d : Fin 3) : BI.Storable (upEmb : UEmb _ 𝕄) (barPay (F := F) c d) := by unfold barPay; infer_instance
instance sendPay_storable (c : Dev nD) (x : Ex) : BI.Storable (upEmb : UEmb _ 𝕄) (sendPay (F := F) c x) := by unfold sendPay; infer_instance
instance recvPay_storable (c : Dev nD) (x : Ex) : BI.Storable (upEmb : UEmb _ 𝕄) (recvPay X c x) := by unfold recvPay; infer_instance

instance Rd_payload_storable (g : GSem nD τ sig) (r : ℕ) (d : Fin 3) : BI.Storable (upEmb : UEmb _ 𝕄) ((Rd X).payload g r d) := by
  show BI.Storable upEmb (match role g.2 with
    | .bar => barPay g.1.1 d | .send x => sendPay g.1.1 x | .recv x => recvPay X g.1.1 x | .other => iprop(emp))
  cases role g.2 <;> dsimp only <;> infer_instance

section Sched
variable (c : Dev nD) (x : Ex)

/-- A barrier cell has three duties. -/
theorem duties_bar : (Rd X).duties (barCell c) 0 = Finset.univ := by
  dsimp only [Rd]; rw [if_pos ⟨rfl, rfl⟩, role_bar]
/-- A send cell has one duty. -/
theorem duties_send : (Rd X).duties (sendCell c x) 0 = {0} := by
  dsimp only [Rd]; rw [if_pos ⟨rfl, rfl⟩, role_send]
/-- A receive cell has one duty. -/
theorem duties_recv : (Rd X).duties (recvCell c x) 0 = {0} := by
  dsimp only [Rd]; rw [if_pos ⟨rfl, rfl⟩, role_recv]
/-- After the first round no cell has any. -/
theorem duties_later (g : GSem nD τ sig) : ∀ r, 1 ≤ r → (Rd X).duties g r = ∅ :=
  fun r hr => by dsimp only [Rd]; rw [if_neg fun h => by omega]

/-- Each duty on a barrier cell is one unit. -/
theorem amount_bar (d : Fin 3) : (Rd X).amount (barCell c) 0 d = 1 := by dsimp only [Rd]; rw [role_bar]
/-- The duty on a send cell is a copy's count. -/
theorem amount_send (d : Fin 3) : (Rd X).amount (sendCell c x) 0 d = N := by dsimp only [Rd]; rw [role_send]
/-- The duty on a receive cell is a copy's count. -/
theorem amount_recv (d : Fin 3) : (Rd X).amount (recvCell c x) 0 d = N := by dsimp only [Rd]; rw [role_recv]

/-- A barrier cell expects three units. -/
theorem expect_bar : (Rd X).expect (barCell c) 0 = 3 := by
  unfold Schedule.expect Schedule.amountOf
  rw [duties_bar, Finset.sum_congr rfl fun d _ => amount_bar X c d, Finset.sum_const, Finset.card_univ, Fintype.card_fin, smul_eq_mul]
/-- A send cell expects a copy's count. -/
theorem expect_send : (Rd X).expect (sendCell c x) 0 = N := by
  unfold Schedule.expect Schedule.amountOf; rw [duties_send, Finset.sum_singleton, amount_send]
/-- A receive cell expects a copy's count. -/
theorem expect_recv : (Rd X).expect (recvCell c x) 0 = N := by
  unfold Schedule.expect Schedule.amountOf; rw [duties_recv, Finset.sum_singleton, amount_recv]

/-- What a signal on the barrier hands over. -/
theorem payload_bar (d : Fin 3) : (Rd X).payload (barCell c) 0 d = barPay c d := by dsimp only [Rd]; rw [role_bar]
/-- What the end of a send hands back. -/
theorem payload_send (d : Fin 3) : (Rd X).payload (sendCell c x) 0 d = sendPay c x := by dsimp only [Rd]; rw [role_send]
/-- What a landing hands over. -/
theorem payload_recv (d : Fin 3) : (Rd X).payload (recvCell c x) 0 d = recvPay X c x := by dsimp only [Rd]; rw [role_recv]

/-- All that a send cell's round hands over. -/
theorem rest_send : bigSep ((Rd X).duties (sendCell c x) 0 \ ∅) (fun d => (Rd X).payload (sendCell c x) 0 d) = sendPay c x := by
  rw [Finset.sdiff_empty, duties_send, bigSep_singleton, payload_send]
/-- All that a receive cell's round hands over. -/
theorem rest_recv : bigSep ((Rd X).duties (recvCell c x) 0 \ ∅) (fun d => (Rd X).payload (recvCell c x) 0 d) = recvPay X c x := by
  rw [Finset.sdiff_empty, duties_recv, bigSep_singleton, payload_recv]

/-- The exchanges sorted by peer are all of them. -/
theorem bigSep_exs {M : Type} [URA M] (Φ : Fin 3 → Ex → sProp M) :
    bigSep Finset.univ (fun d => bigSep (exsWith d) (Φ d)) = bigSep Finset.univ fun y : Ex => Φ (exNear y.2) y := by
  rw [bigSep_congr fun d _ => bigSep_filter Finset.univ (fun y : Ex => exNear y.2 = d) (Φ d), bigSep_univ_comm]
  refine bigSep_congr fun y _ => ?_
  rw [← bigSep_filter Finset.univ (fun d : Fin 3 => exNear y.2 = d) fun d => Φ d y,
    show Finset.univ.filter (fun d : Fin 3 => exNear y.2 = d) = {exNear y.2} from by ext d; simp [eq_comm], bigSep_singleton]

/-- The rest of the barrier cell's round: the place of every exchange in the peer's receive buffer. -/
theorem rest_bar : bigSep ((Rd X).duties (barCell c) 0 \ ∅) (fun d => (Rd X).payload (barCell c) 0 d)
    = bigSep Finset.univ fun y : Ex => iprop(∃ f, slotPts (peer y.2 c) y f) := by
  rw [Finset.sdiff_empty, duties_bar, bigSep_congr fun d _ => payload_bar X c d]
  unfold barPay
  rw [bigSep_exs fun d y => iprop(∃ f, slotPts (near d c) y f)]
  exact bigSep_congr fun y _ => by rw [peer_near]

end Sched

/-! ## What a device owes; the levels -/

/-- The exchanges in program order. -/
def exList : List Ex := [(0, 0), (1, 0), (0, 1), (1, 1), (0, 2), (1, 2), (0, 3), (1, 3), (0, 4), (1, 4), (0, 5), (1, 5)]

/-- The copies of the exchanges `l`, the first the last summand. -/
def owing (c : Dev nD) : List Ex → CellTallies nD τ sig Unit
  | [] => 0
  | x :: l => owing c l + tallyAt (recvCell (peer x.2 c) x) () N

/-- What device `c` owes after two signals: the copies and the third signal. -/
def O₁ (c : Dev nD) : CellTallies nD τ sig Unit := owing c exList + tallyAt (barCell (near 2 c)) () 1
/-- What it owes after one signal. -/
def O₂ (c : Dev nD) : CellTallies nD τ sig Unit := O₁ c + tallyAt (barCell (near 1 c)) () 1
/-- What device `c` owes at launch. -/
def O₀ (c : Dev nD) : CellTallies nD τ sig Unit := O₂ c + tallyAt (barCell (near 0 c)) () 1

/-- Which cells have a level: those of the devices' own cores. -/
def L (g : GSem nD τ sig) : Finset Unit := if g.1.2 = .tc then {()} else ∅

/-- The place of an exchange in program order. -/
def exLevel (x : Ex) : ℕ := 2 * x.2.val + x.1.val

/-- The levels: sends and staging lowest, then the barrier, then the exchanges in program order. -/
def lv (g : GSem nD τ sig) (_ : Unit) : ℕ := match role g.2 with
  | .bar => 1 | .recv x => 2 + exLevel x | _ => 0

/-- Cells of other threads have no level. -/
theorem L_of_ne (g : GSem nD τ sig) (h : g.1.2 ≠ .tc) : L g = ∅ := if_neg h
/-- The cells of a device's core have one. -/
theorem L_tc (c : Dev nD) (sm : SemLoc sig) : L ((c : Thread nD τ), sm) = {()} := if_pos rfl

/-- The level of a barrier cell. -/
theorem lv_bar (c : Dev nD) (u : Unit) : lv (barCell c) u = 1 := by unfold lv; rw [role_bar]
/-- The level of a send cell. -/
theorem lv_send (c : Dev nD) (x : Ex) (u : Unit) : lv (sendCell c x) u = 0 := by unfold lv; rw [role_send]
/-- The level of a receive cell. -/
theorem lv_recv (c : Dev nD) (x : Ex) (u : Unit) : lv (recvCell c x) u = 2 + exLevel x := by unfold lv; rw [role_recv]

/-- What is owed in a sum is owed in one of the summands. -/
theorem pos_add {a b : CellTallies nD τ sig Unit} {g : GSem nD τ sig} {u : Unit} (h : 0 < (a + b) g u) : 0 < a g u ∨ 0 < b g u := by
  rw [Pi.add_apply, Finsupp.add_apply] at h; omega

/-- A single debt is owed on its own cell only. -/
theorem pos_at {g' g : GSem nD τ sig} {u : Unit} {n : ℕ} (h : 0 < tallyAt g' () n g u) : g = g' := by
  rw [tallyAt_apply] at h
  by_contra hn
  rw [if_neg fun h' => hn h'.1] at h
  exact Nat.lt_irrefl 0 h

/-- The copies owed are owed on the peers' receive cells. -/
theorem owing_pos {c : Dev nD} {l : List Ex} {g : GSem nD τ sig} {u : Unit} (h : 0 < owing c l g u) :
    ∃ x ∈ l, g = recvCell (peer x.2 c) x := by
  induction l with
  | nil => exact absurd h (Nat.lt_irrefl 0)
  | cons x l ih =>
    rcases pos_add h with h | h
    · obtain ⟨y, hy, e⟩ := ih h
      exact ⟨y, List.mem_cons_of_mem _ hy, e⟩
    · exact ⟨x, List.mem_cons_self, pos_at h⟩

/-- What is owed at launch is owed on the peers' receive cells and barriers. -/
theorem O₀_pos {c : Dev nD} {g : GSem nD τ sig} {u : Unit} (h : 0 < O₀ c g u) :
    (∃ x ∈ exList, g = recvCell (peer x.2 c) x) ∨ ∃ d, g = barCell (near d c) := by
  rcases pos_add h with h | h
  · rcases pos_add h with h | h
    · rcases pos_add h with h | h
      · exact .inl (owing_pos h)
      · exact .inr ⟨2, pos_at h⟩
    · exact .inr ⟨1, pos_at h⟩
  · exact .inr ⟨0, pos_at h⟩

/-- A wait on a cell of level `k` is allowed while what is owed lies above. -/
theorem mayWait_of {c : Dev nD} {sm : SemLoc sig} {O : CellTallies nD τ sig Unit} (k : ℕ) (hk : lv ((c : Thread nD τ), sm) () ≤ k)
    (hO : ∀ g u, 0 < O g u → g.1.2 = .tc ∧ k < lv g u) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hk)
    (fun g u hg => (hO g u hg).2)

/-- A wait on a staging or send cell, whatever is owed of what was owed at launch. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine mayWait_of 0 (le_of_eq hq) fun g u hg => ?_
    rcases O₀_pos hg with ⟨x, -, rfl⟩ | ⟨d, rfl⟩
    · exact ⟨rfl, by rw [lv_recv]; omega⟩
    · exact ⟨rfl, by rw [lv_bar]; omega⟩
  · rw [MayWait_zero]; iintro -; iempintro

/-- A device may wait on its barrier while it owes all copies. -/
theorem mayWait_bar (c : Dev nD) : (levAts L lv : sProp 𝕄) ⊢ MayWait (c : Thread nD τ) (.reg barS) () (owing c exList) :=
  mayWait_of 1 (le_of_eq (lv_bar c ())) fun g u hg => by
    obtain ⟨x, -, rfl⟩ := owing_pos hg
    exact ⟨rfl, by rw [lv_recv]; omega⟩

/-- A device may wait for the end of a send whatever copies it owes. -/
theorem mayWait_send (c : Dev nD) (x : Ex) (l : List Ex) : (levAts L lv : sProp 𝕄) ⊢ MayWait (c : Thread nD τ) (.dma (sSem x)) () (owing c l) :=
  mayWait_of 0 (le_of_eq (lv_send c x ())) fun g u hg => by
    obtain ⟨x, -, rfl⟩ := owing_pos hg
    exact ⟨rfl, by rw [lv_recv]; omega⟩

/-- A device may wait for a landing while it owes only the copies of later exchanges. -/
theorem mayWait_recv (c : Dev nD) (x : Ex) (l : List Ex) (hl : ∀ y ∈ l, exLevel x < exLevel y) :
    (levAts L lv : sProp 𝕄) ⊢ MayWait (c : Thread nD τ) (.dma (rSem x)) () (owing c l) :=
  mayWait_of (2 + exLevel x) (le_of_eq (lv_recv c x ())) fun g u hg => by
    obtain ⟨y, hy, rfl⟩ := owing_pos hg
    exact ⟨rfl, by rw [lv_recv]; have := hl y hy; omega⟩

/-! ## What a device's body starts from -/

variable (K : Dev nD × (Unit ⊕ (Bool × Ex)) → ℕ)

/-- The invariants of all cells and that all have begun. -/
def records : sProp 𝕄 :=
  iprop((bigSep Finset.univ fun ck : Dev nD × (Unit ⊕ (Bool × Ex)) => cellInv ER (Rd X) (K ck) (kcell ck))
    ∗ bigSep Finset.univ fun ck : Dev nD × (Unit ⊕ (Bool × Ex)) => reached ER (kcell ck) 0)

instance records_persistent : BI.Persistent (records X K) := by unfold records; infer_instance

/-- The records hold the invariant of every cell. -/
theorem inv_at (ck : Dev nD × (Unit ⊕ (Bool × Ex))) : records X K ⊢ cellInv ER (Rd X) (K ck) (kcell ck) := by
  unfold records
  exact sep_elim_left.trans (bigSep_elim (Finset.mem_univ ck))
/-- The records say that every cell has begun. -/
theorem reached_at (ck : Dev nD × (Unit ⊕ (Bool × Ex))) : records X K ⊢ reached ER (kcell ck) 0 := by
  unfold records
  exact sep_elim_right.trans (bigSep_elim (Finset.mem_univ ck))

/-- The invariant of a barrier cell. -/
theorem inv_bar (c : Dev nD) : records X K ⊢ cellInv ER (Rd X) (K (c, .inl ())) (barCell c) := inv_at X K (c, .inl ())
/-- The invariant of a send cell. -/
theorem inv_send (c : Dev nD) (x : Ex) : records X K ⊢ cellInv ER (Rd X) (K (c, .inr (false, x))) (sendCell c x) := inv_at X K (c, .inr (false, x))
/-- The invariant of a receive cell. -/
theorem inv_recv (c : Dev nD) (x : Ex) : records X K ⊢ cellInv ER (Rd X) (K (c, .inr (true, x))) (recvCell c x) := inv_at X K (c, .inr (true, x))
/-- A barrier cell has begun. -/
theorem reached_bar (c : Dev nD) : records X K ⊢ reached ER (barCell c) 0 := reached_at X K (c, .inl ())
/-- A send cell has begun. -/
theorem reached_send (c : Dev nD) (x : Ex) : records X K ⊢ reached ER (sendCell c x) 0 := reached_at X K (c, .inr (false, x))
/-- A receive cell has begun. -/
theorem reached_recv (c : Dev nD) (x : Ex) : records X K ⊢ reached ER (recvCell c x) 0 := reached_at X K (c, .inr (true, x))

/-- What device `c` needs for exchange `x` besides the buffers: the duties it pays and the positions it waits from. -/
def rights (c : Dev nD) (x : Ex) : sProp 𝕄 :=
  iprop((dutyTok ER (sendCell c x) 0 0 ∗ dutyTok ER (recvCell (peer x.2 c) x) 0 0) ∗ (atPos ER (sendCell c x) 0 ∅ 0 ∗ atPos ER (recvCell c x) 0 ∅ 0))

/-- What device `c` holds of the protocol at the start, but for the credits. -/
def linear (c : Dev nD) : sProp 𝕄 :=
  iprop(atPos ER (barCell c) 0 ∅ 0 ∗ (bigSep Finset.univ fun d : Fin 3 => dutyTok ER (barCell (near d c)) 0 d) ∗ bigSep Finset.univ fun x : Ex => rights c x)

/-- What device `c` holds of the protocol: the records and its linear share. -/
def ghost (c : Dev nD) : sProp 𝕄 := iprop(records X K ∗ linear c)

/-- What device `c`'s body starts from. -/
def start (c : Dev nD) : sProp 𝕄 :=
  iprop((∃ K, ghost X K c) ∗ cred (tallyAt (barCell c) () 3) ∗ (bigSep Finset.univ fun x : Ex => cred (tallyAt (recvCell c x) () N)) ∗ levAts L lv)

end Cert.KernelIdeal.Sort
-- ==== Proof.KernelIdeal.Exchange.lean ====
/-
  ONE EXCHANGE. `wp_send`: half `h` of device `c` written to the send buffer and copied to the peer. `wp_receive`: the two waits and the load,
  which gives what the peer sent. Both for any exchange.
-/
module

public import proofs.«01_k».proof.Proof.KernelIdeal.Protocol
public import Idealize.ShloMosaic.Lib.Pipeline.Value

@[expose] public section

noncomputable section

namespace Cert.KernelIdeal.Sort

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants are needed. -/
abbrev 𝒱₀ : Variants := Variants.none

variable (X : Dev nD → FVec F S1024x256 .f32) (K : Dev nD × (Unit ⊕ (Bool × Ex)) → ℕ)

/-- The send buffer's half, read as a block after a block was stored to it, is that block. -/
theorem read_stored (h : Fin 2) (f : Buf (Elt F) ((sbufAt sM h).view.loc ((0 : Dev nD) : Thread nD τ))) (t : FVec F S1024x128 .bf16) :
    (sbufAt sM h).view.read (Elt F) ((sM.access (sbufRect h)).write (Elt F) f (shapeCast S1x1024x128 t shapeCasts_S1024x128_S1x1024x128) Finset.univ) = t := by
  rw [Memref.read_squeeze_slice sM (sbufRect h) (fun _ => rfl) squeezes_S1x1024x128_S1024x128 shapeCasts_S1x1024x128_S1024x128, View.readAt_rect]
  erw [View.read_write_univ]
  exact shapeCast_shapeCast _ _ _

/-- A store to half `h` of the send buffer touches the elements of that half. -/
theorem set_sbuf (h : Fin 2) : (sM.access (sbufRect h)).setOn Finset.univ = (sbufAt sM h).view.set := (View.set_reshape _ _).symm
/-- A load of the place of exchange `x` reads the elements of that place. -/
theorem set_recv (x : Ex) : rM.view.setOn (recvRect x.1 x.2).toLoadRect.set = (recvAt rM x.1 x.2).view.set :=
  ((View.set_reshape _ _).trans (View.set_slice _ _)).symm
/-- A load of half `h` of the send buffer reads the elements of that half. -/
theorem set_sbuf_load (h : Fin 2) : sM.view.setOn (sbufRect h).toLoadRect.set = (sbufAt sM h).view.set :=
  ((View.set_reshape _ _).trans (View.set_slice _ _)).symm

/-- What is sent arrives. -/
theorem sent_arrives (c : Dev nD) (x : Ex) (f : Buf (Elt F) ((sbufAt sM x.1).view.loc (c : Thread nD τ)))
    (hf : (sbufAt sM x.1).view.read (Elt F) f = sent (chunk X x.1 x.2.val c))
    (fd : Buf (Elt F) ((recvAt rM x.1 x.2).view.loc ((peer x.2 c : Dev nD) : Thread nD τ))) :
    slotPts (peer x.2 c) x ((recvAt rM x.1 x.2).view.write (Elt F) fd ((sbufAt sM x.1).view.read (Elt F) f) Finset.univ) ⊢ recvPay X (peer x.2 c) x := by
  unfold recvPay
  iintro H
  iexists _
  isplitr; swap; · iexact H
  ipureintro
  rw [View.read_write_univ, brought, peer_peer, hf]

/-- The copy of an exchange, from a half of the send buffer that holds the block to send. -/
theorem wp_copy_out (c : Dev nD) (x : Ex) (l : List Ex) (W : Waits sig Unit)
    (f : Buf (Elt F) ((sbufAt sM x.1).view.loc (c : Thread nD τ))) (hf : (sbufAt sM x.1).view.read (Elt F) f = sent (chunk X x.1 x.2.val c))
    (fd : Buf (Elt F) ((recvAt rM x.1 x.2).view.loc ((peer x.2 c : Dev nD) : Thread nD τ)))
    {hsc : (recvAt rM x.1 x.2).view.ref.isScScratch = false} {hsrc : (sbufAt sM x.1).view.WordExact} {hdst : (recvAt rM x.1 x.2).view.WordExact}
    {hsem : DmaTarget.Typed .vmem (.dma (rSem x)) (.remote (Dev.tc (peer x.2 c) : Thread nD τ) (recvAt rM x.1 x.2) (.dma (sSem x)) hsc)}
    {α : Type} {Q : α → sProp 𝕄} (k : PUnit → Prog (TpuEff nD τ sig (Elt F) Λ₀ .tc) α) :
    iprop(cellInv ER (Rd X) (K (c, .inr (false, x))) (sendCell c x) ∗ cellInv ER (Rd X) (K (peer x.2 c, .inr (true, x))) (recvCell (peer x.2 c) x)
        ∗ sbufPts c x.1 f ∗ slotPts (peer x.2 c) x fd ∗ owes (c : Thread nD τ) (owing c (x :: l)) W
        ∗ dutyTok ER (sendCell c x) 0 0 ∗ reached ER (sendCell c x) 0
        ∗ dutyTok ER (recvCell (peer x.2 c) x) 0 0 ∗ reached ER (recvCell (peer x.2 c) x) 0)
      ⊢ iprop(((cred (tallyAt (sendCell c x) () N) ∗ owes (c : Thread nD τ) (owing c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sbufAt sM x.1) (.remote (Dev.tc (peer x.2 c) : Thread nD τ) (recvAt rM x.1 x.2) (.dma (sSem x)) hsc) (.dma (rSem x)) hsrc hdst hsem) k) Q) :=
  Rounds.wp_send_pointsTo 𝒱₀ ER (Rd X) (c : Thread nD τ) none (κ₁ := K (c, .inr (false, x))) (κ₂ := K (peer x.2 c, .inr (true, x)))
    (r₁ := 0) (r₂ := 0) (d₁ := 0) (d₂ := 0) (fs := f) (fd := fd)
    (by rw [duties_send]; exact Finset.mem_singleton_self _) (by rw [duties_recv]; exact Finset.mem_singleton_self _)
    () () N rfl (amount_send X c x 0) (amount_recv X (peer x.2 c) x 0) (owing c l) rfl (W := W)
    (by rw [payload_send]; unfold sendPay sbufPts; iintro H; iexists f; iexact H)
    (by rw [payload_recv]; exact sent_arrives X c x f hf fd)

/-- An exchange's first half: the block stored and its copy started. The buffers go into the copy, and what is owed shrinks by it. -/
theorem wp_send (c : Dev nD) (x : Ex) (l : List Ex) (v : FVec F S1024x128 .f32) (hv : v = chunk X x.1 x.2.val c) (W : Waits sig Unit)
    (f : Buf (Elt F) ((sbufAt sM x.1).view.loc (c : Thread nD τ))) (fd : Buf (Elt F) ((recvAt rM x.1 x.2).view.loc ((peer x.2 c : Dev nD) : Thread nD τ)))
    {α : Type} {Q : α → sProp 𝕄} (k : PUnit → Prog (TpuEff nD τ sig (Elt F) Λ₀ .tc) α) :
    iprop(records X K ∗ sbufPts c x.1 f ∗ slotPts (peer x.2 c) x fd ∗ owes (c : Thread nD τ) (owing c (x :: l)) W
        ∗ (dutyTok ER (sendCell c x) 0 0 ∗ dutyTok ER (recvCell (peer x.2 c) x) 0 0))
      ⊢ iprop(((cred (tallyAt (sendCell c x) () N) ∗ owes (c : Thread nD τ) (owing c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (send sM (Memref.isWhole_whole _) rM (Memref.isWhole_whole _) cc0_scratch2 cc0_scratch3 c x.1 x.2 v >>= k) Q) := by
  unfold send
  simp only [Prog.lift, Prog.bind_op, Prog.bind_ret]
  iintro ⟨#HR, Hs, Hd, HO, Ht1, Ht2⟩ Hk
  unfold sbufPts
  iapply (wp_load 𝒱₀ (c : Thread nD τ) none Set.univ (m := sM) (le_of_eq (set_sbuf_load x.1))) $$ Hs; iintro Hs
  iapply (wp_store 𝒱₀ (c : Thread nD τ) none Set.univ (m := sM) (r := sbufRect x.1) (Mk := Finset.univ) (le_of_eq (set_sbuf x.1))) $$ Hs; iintro Hs
  iapply (wp_copy_out X K c x l W _ ((read_stored x.1 f (sent v)).trans (by rw [hv])) fd) $$ [Hs Hd HO Ht1 Ht2]
  · isplitr; · iapply (inv_send X K c x); iexact HR
    isplitr; · iapply (inv_recv X K (peer x.2 c) x); iexact HR
    isplitl [Hs]; · unfold sbufPts; iexact Hs
    isplitl [Hd]; · iexact Hd
    isplitl [HO]; · iexact HO
    isplitl [Ht1]; · iexact Ht1
    isplitr; · iapply (reached_send X K c x); iexact HR
    isplitl [Ht2]; · iexact Ht2
    iapply (reached_recv X K (peer x.2 c) x); iexact HR
  iexact Hk

/-- What an exchange leaves: the place in the receive buffer and the two semaphores at zero. -/
def left (c : Dev nD) (x : Ex) : sProp 𝕄 :=
  iprop((∃ f, slotPts c x f) ∗ semVal (sendCell c x) 0 ∗ semVal (recvCell c x) 0)

/-- An exchange's second half: the half of the send buffer back, and what the peer sent. -/
theorem wp_receive (c : Dev nD) (x : Ex) (l : List Ex) (hl : ∀ y ∈ l, exLevel x < exLevel y) (W : Waits sig Unit)
    {α : Type} {Q : α → sProp 𝕄} (k : Vec F S1x1x1024x128 .bf16 → Prog (TpuEff nD τ sig (Elt F) Λ₀ .tc) α) :
    iprop(records X K ∗ levAts L lv ∗ cred (tallyAt (sendCell c x) () N) ∗ cred (tallyAt (recvCell c x) () N)
        ∗ (atPos ER (sendCell c x) 0 ∅ 0 ∗ atPos ER (recvCell c x) 0 ∅ 0) ∗ owes (c : Thread nD τ) (owing c l) W)
      ⊢ iprop((∀ W f r, iprop(⌜shapeCast S1024x128 r shapeCasts_S1x1x1024x128_S1024x128 = brought X c x⌝
              ∗ sbufPts c x.1 f ∗ left c x ∗ owes (c : Thread nD τ) (owing c l) W)
            -∗ wp frame (wpE (defs₀ (F := F)) 𝒱₀ (c : Thread nD τ) none) Set.univ (k r) Q)
          -∗ wp frame (wpE (defs₀ (F := F)) 𝒱₀ (c : Thread nD τ) none) Set.univ
              (receive sM (Memref.isWhole_whole _) rM (Memref.isWhole_whole _) cc0_scratch2 cc0_scratch3 x.1 x.2 >>= k) Q) := by
  unfold receive
  simp only [Prog.lift, Prog.bind_op, Prog.bind_ret]
  iintro ⟨#HR, #Hlev, HcS, HcV, ⟨HatS, HatV⟩, HO⟩ Hk
  iapply (Rounds.wp_wait_rest_token 𝒱₀ ER (Rd X) (c : Thread nD τ) none (κ := K (c, .inr (false, x)))
      (wpE_waitDma2_eq 𝒱₀ (c : Thread nD τ) none Set.univ) (Set.mem_univ _) () (O := owing c l) (W := W) (R := 0) (m := 0) (T := ∅)
      (by rw [Nat.zero_add, expect_send, N_sbuf])) $$ [HcS HO HatS]
  · isplitr; · iapply (inv_send X K c x); iexact HR
    isplitl [HcS]; · iexact HcS
    isplitl [HO]; · iexact HO
    isplitr; · iapply (mayWait_send c x l); iexact Hlev
    iexact HatS
  iintro ⟨HO, HatS, -, Hpay⟩
  ihave Hs := (Entails.of_eq (rest_send X c x)) $$ Hpay
  unfold sendPay
  icases Hs with ⟨%f, Hs⟩
  iapply (Rounds.wp_wait_rest_token 𝒱₀ ER (Rd X) (c : Thread nD τ) none (κ := K (c, .inr (true, x)))
      (wpE_waitDma2_eq 𝒱₀ (c : Thread nD τ) none Set.univ) (Set.mem_univ _) () (O := owing c l) (W := insert (SemLoc.dma (sSem x), ()) W) (R := 0) (m := 0) (T := ∅)
      (by rw [Nat.zero_add, expect_recv, N_recv])) $$ [HcV HO HatV]
  · isplitr; · iapply (inv_recv X K c x); iexact HR
    isplitl [HcV]; · iexact HcV
    isplitl [HO]; · iexact HO
    isplitr; · iapply (mayWait_recv c x l hl); iexact Hlev
    iexact HatV
  iintro ⟨HO, HatV, -, Hpay⟩
  ihave Hv := (Entails.of_eq (rest_recv X c x)) $$ Hpay
  unfold recvPay slotPts
  icases Hv with ⟨%g, %hg, Hv⟩
  imod (Rounds.cell_close ER (Rd X) (Set.mem_univ (K (c, .inr (false, x)))) (fun h => h) (R := 0 + 1) (duties_later X (sendCell c x))) $$ [HatS] with HzS
  · isplitr; · iapply (inv_send X K c x); iexact HR
    iexact HatS
  imod (Rounds.cell_close ER (Rd X) (Set.mem_univ (K (c, .inr (true, x)))) (fun h => h) (R := 0 + 1) (duties_later X (recvCell c x))) $$ [HatV] with HzV
  · isplitr; · iapply (inv_recv X K c x); iexact HR
    iexact HatV
  iapply (wp_load 𝒱₀ (c : Thread nD τ) none Set.univ (m := rM) (le_of_eq (set_recv x))) $$ Hv; iintro Hv
  iapply Hk
  isplitr; · ipureintro; exact hg
  isplitl [Hs]; · iexact Hs
  isplitl [Hv HzS HzV]
  · unfold left slotPts
    isplitl [Hv]; · iexists g; iexact Hv
    isplitl [HzS] <;> iassumption
  iexact HO

end Cert.KernelIdeal.Sort
-- ==== Proof.KernelIdeal.Buffers.lean ====
/-
  THE BUFFERS, CUT AND JOINED. The send buffer is its two halves, the receive buffer its twelve places; the output is written by halves.
-/
module

public import proofs.«01_k».proof.Proof.KernelIdeal.Exchange

@[expose] public section

noncomputable section

namespace Cert.KernelIdeal.Sort

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The receive buffer -/

/-- The elements of one place. -/
abbrev recvSet (x : Ex) : Finset S2x6x1024x128.Idx := (recvAt rM x.1 x.2).view.set

/-- An element lies in the place of exchange `x` if its first two indices are `x`. -/
theorem mem_recv (x : Ex) (i : S2x6x1024x128.Idx) : i ∈ (recvAt rM x.1 x.2).view.set ↔ (i 0, i 1) = x := by
  rw [show (recvAt rM x.1 x.2).view.set = (recvRect x.1 x.2).set from (View.set_reshape _ _).trans (View.set_slice_whole _ _), Rect.mem_set_unit]
  obtain ⟨h, s⟩ := x
  constructor
  · intro H
    have h0 := H 0; have h1 := H 1
    simp at h0 h1
    exact Prod.ext (Fin.ext (by simp; omega)) (Fin.ext (by simp; omega))
  · rintro H
    obtain ⟨rfl, rfl⟩ := Prod.mk.inj H
    intro a
    have := (i a).isLt
    fin_cases a <;> simp at this ⊢ <;> omega

/-- The places of different exchanges are disjoint. -/
theorem disjoint_recv (x y : Ex) (h : x ≠ y) : Disjoint (recvAt rM x.1 x.2).view.set (recvAt rM y.1 y.2).view.set :=
  Finset.disjoint_left.mpr fun i hi hj => h (((mem_recv x i).mp hi).symm.trans ((mem_recv y i).mp hj))

/-- The places cover the receive buffer. -/
theorem cover_recv : (Finset.univ : Finset Ex).biUnion recvSet = Finset.univ := by
  ext i
  simp only [Finset.mem_biUnion, Finset.mem_univ, true_and, iff_true]
  exact ⟨(i 0, i 1), (mem_recv _ i).mpr rfl⟩

/-- The receive buffer is cut into its twelve places. -/
theorem slots_of_whole (c : Dev nD) (f : Buf (Elt F) ((c : Thread nD τ).loc cc0_scratch1)) :
    (((c : Thread nD τ).loc cc0_scratch1) ↦{fullShare} f : sProp 𝕄) ⊢ bigSep Finset.univ fun x : Ex => iprop(∃ f, slotPts c x f) := by
  have e := pointsTo_biUnion (ℓ := (c : Thread nD τ).loc cc0_scratch1) (q := fullShare) (f := f) (Ix := Unit) (Name := ℕ) (U := UU) (Lvl := ℕ)
    Finset.univ recvSet fun x _ y _ h => disjoint_recv x y h
  rw [cover_recv] at e
  rw [e]
  have one (x : Ex) : ((c : Thread nD τ).loc cc0_scratch1 ↦[recvSet x]{fullShare} f : sProp 𝕄) ⊢ iprop(∃ f, slotPts c x f) := by
    unfold slotPts
    iintro H
    iexists f
    iexact H
  exact bigSep_mono fun x _ => one x

/-- The twelve places are joined to the receive buffer. -/
theorem whole_of_slots (c : Dev nD) :
    (bigSep Finset.univ fun x : Ex => iprop(∃ f, slotPts c x f) : sProp 𝕄) ⊢ iprop(∃ f, ((c : Thread nD τ).loc cc0_scratch1) ↦{fullShare} f) := by
  iintro H
  ihave H := (BI.bigSep_exists_pi Finset.univ (fun (x : Ex) f => (slotPts c x f : sProp 𝕄))) $$ H
  icases H with ⟨%fs, H⟩
  unfold slotPts
  ihave H := (pointsTo_biUnion_join (ℓ := (c : Thread nD τ).loc cc0_scratch1) Finset.univ recvSet fs (fs (0, 0))
    fun x _ y _ h => disjoint_recv x y h) $$ H
  icases H with ⟨%g, -, H⟩
  iexists g
  rw [cover_recv]
  iexact H

/-! ## The send buffer -/

/-- The elements of one half. -/
abbrev sbufSet (h : Fin 2) : Finset S2x1024x128.Idx := (sbufAt sM h).view.set

/-- An element lies in half `h` of the send buffer if its first index is `h`. -/
theorem mem_sbuf (h : Fin 2) (i : S2x1024x128.Idx) : i ∈ (sbufAt sM h).view.set ↔ i 0 = h := by
  rw [show (sbufAt sM h).view.set = (sbufRect h).set from (View.set_reshape _ _).trans (View.set_slice_whole _ _), Rect.mem_set_unit]
  constructor
  · intro H
    have h0 := H 0
    simp at h0
    exact Fin.ext (by omega)
  · rintro rfl a
    have := (i a).isLt
    fin_cases a <;> simp at this ⊢ <;> omega

/-- The two halves are disjoint. -/
theorem disjoint_sbuf (x y : Fin 2) (h : x ≠ y) : Disjoint (sbufAt sM x).view.set (sbufAt sM y).view.set :=
  Finset.disjoint_left.mpr fun i hi hj => h (((mem_sbuf x i).mp hi).symm.trans ((mem_sbuf y i).mp hj))

/-- The two halves cover the send buffer. -/
theorem cover_sbuf : (Finset.univ : Finset (Fin 2)).biUnion sbufSet = Finset.univ := by
  ext i
  simp only [Finset.mem_biUnion, Finset.mem_univ, true_and, iff_true]
  exact ⟨i 0, (mem_sbuf _ i).mpr rfl⟩

/-- The send buffer is cut into its two halves. -/
theorem halves_of_whole (c : Dev nD) (f : Buf (Elt F) ((c : Thread nD τ).loc cc0_scratch0)) :
    (((c : Thread nD τ).loc cc0_scratch0) ↦{fullShare} f : sProp 𝕄) ⊢ iprop((∃ f, sbufPts c 0 f) ∗ ∃ f, sbufPts c 1 f) := by
  have e := pointsTo_biUnion (ℓ := (c : Thread nD τ).loc cc0_scratch0) (q := fullShare) (f := f) (Ix := Unit) (Name := ℕ) (U := UU) (Lvl := ℕ)
    Finset.univ sbufSet fun x _ y _ h => disjoint_sbuf x y h
  rw [cover_sbuf, bigSep_univ_two] at e
  rw [e]
  unfold sbufPts
  iintro ⟨H0, H1⟩
  isplitl [H0]
  · iexists f; iexact H0
  · iexists f; iexact H1

/-- The two halves are joined to the send buffer. -/
theorem whole_of_halves (c : Dev nD) :
    iprop((∃ f, sbufPts c 0 f) ∗ ∃ f, sbufPts c 1 f) ⊢ (iprop(∃ f, ((c : Thread nD τ).loc cc0_scratch0) ↦{fullShare} f) : sProp 𝕄) := by
  unfold sbufPts
  iintro ⟨⟨%f, H0⟩, ⟨%g, H1⟩⟩
  ihave H := (pointsTo_biUnion_join (ℓ := (c : Thread nD τ).loc cc0_scratch0) (q := fullShare) Finset.univ sbufSet ![f, g] f
    fun x _ y _ h => disjoint_sbuf x y h) $$ [H0 H1]
  · rw [bigSep_univ_two]
    isplitl [H0]; · iexact H0
    iexact H1
  icases H with ⟨%g, -, H⟩
  iexists g
  rw [cover_sbuf]
  iexact H

/-! ## The output -/

variable (X : Dev nD → FVec F S1024x256 .f32)

/-- The load of one half of the argument's columns reads that half. -/
theorem load_half (h : Fin 2) (c : Dev nD) : xM.view.readAt (Elt F) (xRect h).toLoadRect (X c) = half h (X c) := rfl

/-- The two halves written are the result. -/
theorem write_halves (c : Dev nD) (f : Buf (Elt F) ((c : Thread nD τ).loc cc0_stg1_0)) :
    (oM.access (xRect 1)).write (Elt F) ((oM.access (xRect 0)).write (Elt F) f (chunk X 0 6 c) Finset.univ) (chunk X 1 6 c) Finset.univ = outAt X c := by
  funext i
  have hi := (i 1).isLt
  have hd : (i 1).val < 256 := hi
  let j : S1024x128.Idx := ValueIdx.ix2 (i 0) (⟨(i 1).val % 128, Nat.mod_lt _ (by decide)⟩ : Fin 128)
  have e (h : Fin 2) (hh : h.val = (i 1).val / 128) : (xRect h).emb j = i := by
    funext a
    refine Fin.ext ?_
    fin_cases a
    · show 0 + 1 * (i 0).val = _; simp
    · show 128 * h.val + 1 * ((i 1).val % 128) = (i 1).val; omega
  rw [← View.read_whole (Val := Elt F) cc0_stg1_0 ((oM.access (xRect 1)).write (Elt F) _ _ _)]
  by_cases h : (i 1).val / 128 = 1
  · rw [← e 1 h.symm]
    refine (View.read_slice_write_emb (v := View.whole cc0_stg1_0) (xRect 1) _ _ (Finset.mem_univ _)).trans ?_
    rw [e 1 h.symm]
    unfold outAt
    rw [h]; rfl
  · have h0 : (i 1).val / 128 = 0 := by omega
    refine (View.read_slice_write_of_not_mem (v := View.whole cc0_stg1_0) (xRect 1) _ _ _ ?_).trans ?_
    · intro hm
      obtain ⟨y, -, hy⟩ := Finset.mem_map.mp hm
      have := congrArg (fun i : S1024x256.Idx => (i 1).val) hy
      have h2 : 128 * 1 + 1 * (y 1).val = (i 1).val := this
      omega
    rw [← e 0 h0.symm]
    refine (View.read_slice_write_emb (v := View.whole cc0_stg1_0) (xRect 0) _ _ (Finset.mem_univ _)).trans ?_
    rw [e 0 h0.symm]
    unfold outAt
    rw [h0]; rfl

end Cert.KernelIdeal.Sort
-- ==== Proof.KernelIdeal.Body.lean ====
/-
  THE BODY at a symbolic device `c`: the rendezvous, then twelve exchanges, a copy's wait always behind the start of the next two.
-/
module

public import proofs.«01_k».proof.Proof.KernelIdeal.Buffers
public import proofs.«01_k».proof.Proof.Gen.KernelIdeal.Frame
public import Idealize.ShloMosaic.Lib.Pipeline.BigSepL

@[expose] public section

noncomputable section

namespace Cert.KernelIdeal.Sort

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Steps

variable (X : Dev nD → FVec F S1024x256 .f32) (K : Dev nD × (Unit ⊕ (Bool × Ex)) → ℕ)

/-- An exchange's block and what the peer brought make the next block. -/
theorem next_chunk (c : Dev nD) (x : Ex) (v : FVec F S1024x128 .f32) (hv : v = chunk X x.1 x.2.val c) (r : Vec F S1x1x1024x128 .bf16)
    (hr : shapeCast S1024x128 r shapeCasts_S1x1x1024x128_S1024x128 = brought X c x) :
    mergeAfter (devWord c) x.2 (keep (devWord c) (exBit x.2) (exDir x.2) v r) = chunk X x.1 (x.2.val + 1) c := by
  have e : ex x.2.val = x.2 := Fin.ext (Nat.mod_eq_of_lt x.2.isLt)
  show mergeAfter (devWord c) x.2 (keepWith (devWord c) (exBit x.2) (exDir x.2) v (shapeCast S1024x128 r shapeCasts_S1x1x1024x128_S1024x128)) = _
  rw [hr, hv, chunk, e, brought]

/-- What an exchange takes that has not begun, the half of the send buffer aside. -/
def need (c : Dev nD) (x : Ex) : sProp 𝕄 :=
  iprop((∃ f, slotPts (peer x.2 c) x f) ∗ rights c x ∗ cred (tallyAt (recvCell c x) () N))
/-- What an exchange holds whose copy is on its way. -/
def waiting (c : Dev nD) (x : Ex) : sProp 𝕄 :=
  iprop(cred (tallyAt (sendCell c x) () N) ∗ cred (tallyAt (recvCell c x) () N) ∗ (atPos ER (sendCell c x) 0 ∅ 0 ∗ atPos ER (recvCell c x) 0 ∅ 0))

/-- The copy of an exchange started. -/
theorem wp_start (c : Dev nD) (x : Ex) (l : List Ex) (v : FVec F S1024x128 .f32) (hv : v = chunk X x.1 x.2.val c) (W : Waits sig Unit)
    {α : Type} {Q : α → sProp 𝕄} (k : PUnit → Prog (TpuEff nD τ sig (Elt F) Λ₀ .tc) α) :
    iprop(records X K ∗ (∃ f, sbufPts c x.1 f) ∗ need c x ∗ owes (c : Thread nD τ) (owing c (x :: l)) W)
      ⊢ iprop(((waiting c x ∗ owes (c : Thread nD τ) (owing c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (send sM (Memref.isWhole_whole _) rM (Memref.isWhole_whole _) cc0_scratch2 cc0_scratch3 c x.1 x.2 v >>= k) Q) := by
  unfold need rights waiting
  iintro ⟨#HR, ⟨%f, Hs⟩, ⟨⟨%fd, Hd⟩, ⟨Ht, Hat⟩, Hc⟩, HO⟩ Hk
  iapply (wp_send X K c x l v hv W f fd k) $$ [Hs Hd Ht HO]
  · isplitr; · iexact HR
    isplitl [Hs]; · iexact Hs
    isplitl [Hd]; · iexact Hd
    isplitl [HO]; · iexact HO
    iexact Ht
  iintro ⟨HcS, HO⟩
  iapply Hk
  isplitl [HcS Hc Hat]
  · isplitl [HcS]; · iexact HcS
    isplitl [Hc]; · iexact Hc
    iexact Hat
  iexact HO

/-- One exchange of a half ended and the next of that half begun. -/
theorem wp_round (c : Dev nD) (h : Fin 2) (s s' : Fin 6) (l : List Ex) (hl : ∀ y ∈ (h, s') :: l, exLevel (h, s) < exLevel y) (W : Waits sig Unit)
    {α : Type} {Q : α → sProp 𝕄} (g : Vec F S1x1x1024x128 .bf16 → FVec F S1024x128 .f32)
    (hg : ∀ r, shapeCast S1024x128 r shapeCasts_S1x1x1024x128_S1024x128 = brought X c (h, s) → g r = chunk X h s'.val c)
    (k : Vec F S1x1x1024x128 .bf16 → PUnit → Prog (TpuEff nD τ sig (Elt F) Λ₀ .tc) α) :
    iprop(records X K ∗ levAts L lv ∗ waiting c (h, s) ∗ need c (h, s') ∗ owes (c : Thread nD τ) (owing c ((h, s') :: l)) W)
      ⊢ iprop((∀ W r, iprop(⌜shapeCast S1024x128 r shapeCasts_S1x1x1024x128_S1024x128 = brought X c (h, s)⌝
              ∗ left c (h, s) ∗ waiting c (h, s') ∗ owes (c : Thread nD τ) (owing c l) W)
            -∗ wp frame (wpE (defs₀ (F := F)) 𝒱₀ (c : Thread nD τ) none) Set.univ (k r ⟨⟩) Q)
          -∗ wp frame (wpE (defs₀ (F := F)) 𝒱₀ (c : Thread nD τ) none) Set.univ
              (receive sM (Memref.isWhole_whole _) rM (Memref.isWhole_whole _) cc0_scratch2 cc0_scratch3 h s >>= fun r =>
                send sM (Memref.isWhole_whole _) rM (Memref.isWhole_whole _) cc0_scratch2 cc0_scratch3 c h s' (g r) >>= k r) Q) := by
  iintro ⟨#HR, #Hlev, Hw, Hn, HO⟩ Hk
  unfold waiting
  icases Hw with ⟨HcS, HcV, Hat⟩
  iapply (wp_receive X K c (h, s) ((h, s') :: l) hl W) $$ [HcS HcV Hat HO]
  · isplitr; · iexact HR
    isplitr; · iexact Hlev
    isplitl [HcS]; · iexact HcS
    isplitl [HcV]; · iexact HcV
    isplitl [Hat]; · iexact Hat
    iexact HO
  iintro %W' %f %r ⟨%hr, Hs, Hl, HO⟩
  iapply (wp_start X K c (h, s') l (g r) (hg r hr) W') $$ [Hs Hn HO]
  · isplitr; · iexact HR
    isplitl [Hs]; · iexists f; iexact Hs
    isplitl [Hn]; · iexact Hn
    iexact HO
  iintro ⟨Hw, HO⟩
  iapply Hk $$ %W' %r
  isplitr; · ipureintro; exact hr
  isplitl [Hl]; · iexact Hl
  isplitl [Hw]; · unfold waiting; iexact Hw
  iexact HO

/-- The last exchange of a half ended and its result stored. -/
theorem wp_last (c : Dev nD) (h : Fin 2) (s : Fin 6) (l : List Ex) (hl : ∀ y ∈ l, exLevel (h, s) < exLevel y) (W : Waits sig Unit)
    {α : Type} {Q : α → sProp 𝕄} (g : Vec F S1x1x1024x128 .bf16 → FVec F S1024x128 .f32)
    (hg : ∀ r, shapeCast S1024x128 r shapeCasts_S1x1x1024x128_S1024x128 = brought X c (h, s) → g r = chunk X h 6 c)
    (fo : Buf (Elt F) ((c : Thread nD τ).loc cc0_stg1_0))
    (k : Vec F S1x1x1024x128 .bf16 → PUnit → Prog (TpuEff nD τ sig (Elt F) Λ₀ .tc) α) :
    iprop(records X K ∗ levAts L lv ∗ waiting c (h, s) ∗ owes (c : Thread nD τ) (owing c l) W ∗ (((c : Thread nD τ).loc cc0_stg1_0) ↦{fullShare} fo))
      ⊢ iprop((∀ W r, iprop(left c (h, s) ∗ (∃ f, sbufPts c h f) ∗ owes (c : Thread nD τ) (owing c l) W
              ∗ (((c : Thread nD τ).loc cc0_stg1_0) ↦{fullShare} (oM.access (xRect h)).write (Elt F) fo (chunk X h 6 c) Finset.univ))
            -∗ wp frame (wpE (defs₀ (F := F)) 𝒱₀ (c : Thread nD τ) none) Set.univ (k r ⟨⟩) Q)
          -∗ wp frame (wpE (defs₀ (F := F)) 𝒱₀ (c : Thread nD τ) none) Set.univ
              (receive sM (Memref.isWhole_whole _) rM (Memref.isWhole_whole _) cc0_scratch2 cc0_scratch3 h s >>= fun r =>
                storeOut oM h (g r) >>= k r) Q) := by
  iintro ⟨#HR, #Hlev, Hw, HO, Ho⟩ Hk
  unfold waiting
  icases Hw with ⟨HcS, HcV, Hat⟩
  iapply (wp_receive X K c (h, s) l hl W) $$ [HcS HcV Hat HO]
  · isplitr; · iexact HR
    isplitr; · iexact Hlev
    isplitl [HcS]; · iexact HcS
    isplitl [HcV]; · iexact HcV
    isplitl [Hat]; · iexact Hat
    iexact HO
  iintro %W' %f %r ⟨%hr, Hs, Hl, HO⟩
  unfold storeOut
  simp only [Prog.lift, Prog.bind_op, Prog.bind_ret]
  rw [hg r hr]
  iapply (wp_load 𝒱₀ (c : Thread nD τ) none Set.univ (m := oM) (Finset.subset_univ _)) $$ Ho; iintro Ho
  iapply (wp_store 𝒱₀ (c : Thread nD τ) none Set.univ (m := oM) (r := xRect h) (Mk := Finset.univ) (Finset.subset_univ _)) $$ Ho; iintro Ho
  iapply Hk $$ %W' %r
  isplitl [Hl]; · iexact Hl
  isplitl [Hs]; · iexists f; iexact Hs
  isplitl [HO]; · iexact HO
  iexact Ho

/-- What device `c` hands to its peer `near d c`: the places of its receive buffer the peer writes. -/
theorem barPay_near (c : Dev nD) (d : Fin 3) : (barPay (near d c) d : sProp 𝕄) = bigSep (exsWith d) fun x => iprop(∃ f, slotPts c x f) := by
  unfold barPay near
  rw [peer_peer]

/-- A signal of the rendezvous. -/
theorem wp_signal_near (c : Dev nD) (d : Fin 3) (O : CellTallies nD τ sig Unit) (W : Waits sig Unit)
    {α : Type} {Q : α → sProp 𝕄} (k : PUnit → Prog (TpuEff nD τ sig (Elt F) Λ₀ .tc) α) :
    iprop(records X K ∗ owes (c : Thread nD τ) (O + tallyAt (barCell (near d c)) () 1) W ∗ dutyTok ER (barCell (near d c)) 0 d
        ∗ bigSep (exsWith d) fun x => iprop(∃ f, slotPts c x f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (semSignalWord (near d c) (SemArray.scalar (sig.barrier 0 rfl) : Sems sig S_).sem 1#32 >>= k) Q) := by
  simp only [semSignalWord, Prog.lift, Prog.bind_op, Prog.bind_ret]
  iintro ⟨#HR, HO, Ht, Hs⟩ Hk
  iapply (Rounds.wp_signal 𝒱₀ ER (Rd X) (c : Thread nD τ) none (dst := (near d c : Thread nD τ)) (κ := K (near d c, .inl ()))
      (d := d) (by rw [duties_bar]; exact Finset.mem_univ _) ((amount_bar X (near d c) d).trans (by decide)) () O rfl)
    $$ [HO Ht Hs]
  · isplitr; · iapply (inv_bar X K (near d c)); iexact HR
    isplitl [HO]; · iexact HO
    isplitl [Ht]; · iexact Ht
    isplitl [Hs]; · rw [payload_bar, barPay_near]; iexact Hs
    iapply (reached_bar X K (near d c)); iexact HR
  iexact Hk

/-- The rendezvous: each device hands its places of the receive buffer to those that write them. -/
theorem wp_meet (c : Dev nD) (W : Waits sig Unit) {α : Type} {Q : α → sProp 𝕄} (k : PUnit → Prog (TpuEff nD τ sig (Elt F) Λ₀ .tc) α) :
    iprop(records X K ∗ levAts L lv ∗ atPos ER (barCell c) 0 ∅ 0 ∗ (bigSep Finset.univ fun d : Fin 3 => dutyTok ER (barCell (near d c)) 0 d)
        ∗ (bigSep Finset.univ fun x : Ex => iprop(∃ f, slotPts c x f)) ∗ cred (tallyAt (barCell c) () 3) ∗ owes (c : Thread nD τ) (O₀ c) W)
      ⊢ iprop((∀ W, iprop(semVal (barCell c) 0 ∗ (bigSep Finset.univ fun x : Ex => iprop(∃ f, slotPts (peer x.2 c) x f)) ∗ owes (c : Thread nD τ) (owing c exList) W)
            -∗ wp frame (wpE (defs₀ (F := F)) 𝒱₀ (c : Thread nD τ) none) Set.univ (k ⟨⟩) Q)
          -∗ wp frame (wpE (defs₀ (F := F)) 𝒱₀ (c : Thread nD τ) none) Set.univ (meet c >>= k) Q) := by
  rw [show (meet c >>= k : Prog (TpuEff nD τ sig (Elt F) Λ₀ .tc) α)
      = (semSignalWord (near 0 c) (SemArray.scalar (sig.barrier 0 rfl) : Sems sig S_).sem 1#32 >>= fun _ =>
          semSignalWord (near 1 c) (SemArray.scalar (sig.barrier 0 rfl) : Sems sig S_).sem 1#32 >>= fun _ =>
          semSignalWord (near 2 c) (SemArray.scalar (sig.barrier 0 rfl) : Sems sig S_).sem 1#32 >>= fun _ =>
          semWaitWord (SemArray.scalar (sig.barrier 0 rfl) : Sems sig S_).sem 3#32 >>= k) from by
    unfold meet; simp only [semSignalWord, semWaitWord, Prog.lift, Prog.bind_op, Prog.bind_ret]; rfl]
  rw [← bigSep_exs fun _ y => iprop(∃ f, slotPts c y f)]
  rw [bigSep_univ_eq_bigSepL [0, 1, 2] (by decide) (by decide),
    bigSep_univ_eq_bigSepL [0, 1, 2] (by decide) (by decide), bigSepL_cons', bigSepL_cons', bigSepL_singleton, bigSepL_cons', bigSepL_cons', bigSepL_singleton]
  iintro ⟨#HR, #Hlev, Hat, ⟨Ht0, Ht1, Ht2⟩, ⟨Hs0, Hs1, Hs2⟩, Hc, HO⟩ Hk
  unfold O₀
  iapply (wp_signal_near X K c 0 (O₂ c) W) $$ [HO Ht0 Hs0]
  · isplitr; · iexact HR
    isplitl [HO]; · iexact HO
    isplitl [Ht0]; · iexact Ht0
    iexact Hs0
  iintro HO
  unfold O₂
  iapply (wp_signal_near X K c 1 (O₁ c) W) $$ [HO Ht1 Hs1]
  · isplitr; · iexact HR
    isplitl [HO]; · iexact HO
    isplitl [Ht1]; · iexact Ht1
    iexact Hs1
  iintro HO
  unfold O₁
  iapply (wp_signal_near X K c 2 (owing c exList) W) $$ [HO Ht2 Hs2]
  · isplitr; · iexact HR
    isplitl [HO]; · iexact HO
    isplitl [Ht2]; · iexact Ht2
    iexact Hs2
  iintro HO
  simp only [semWaitWord, Prog.lift, Prog.bind_op, Prog.bind_ret]
  iapply (Rounds.wp_wait_rest_token 𝒱₀ ER (Rd X) (c : Thread nD τ) none (κ := K (c, .inl ()))
      (wpE_semWait_eq 𝒱₀ (c : Thread nD τ) none Set.univ) (Set.mem_univ _) () (O := owing c exList) (W := W) (R := 0) (m := 0) (T := ∅)
      (by rw [expect_bar]; decide)) $$ [Hc HO Hat]
  · isplitr; · iapply (inv_bar X K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  ihave HI := (inv_bar X K c) $$ HR
  imod (Rounds.cell_close ER (Rd X) (Set.mem_univ (K (c, .inl ()))) (fun h => h) (R := 0 + 1) (duties_later X (barCell c))) $$ [HI Hat] with Hz
  · isplitl [HI]; · iexact HI
    iexact Hat
  iapply Hk $$ %_
  isplitl [Hz]; · iexact Hz
  isplitl [Hp]; · iexact Hp
  iexact HO

/-- The last exchange of a half: the wait for it and the store of the result's columns, with nothing after. -/
theorem wp_end (c : Dev nD) (h : Fin 2) (s : Fin 6) (l : List Ex) (hl : ∀ y ∈ l, exLevel (h, s) < exLevel y) (W : Waits sig Unit)
    {Q : PUnit → sProp 𝕄} (g : Vec F S1x1x1024x128 .bf16 → FVec F S1024x128 .f32)
    (hg : ∀ r, shapeCast S1024x128 r shapeCasts_S1x1x1024x128_S1024x128 = brought X c (h, s) → g r = chunk X h 6 c)
    (fo : Buf (Elt F) ((c : Thread nD τ).loc cc0_stg1_0)) :
    iprop(records X K ∗ levAts L lv ∗ waiting c (h, s) ∗ owes (c : Thread nD τ) (owing c l) W ∗ (((c : Thread nD τ).loc cc0_stg1_0) ↦{fullShare} fo))
      ⊢ iprop((∀ W, iprop(left c (h, s) ∗ (∃ f, sbufPts c h f) ∗ owes (c : Thread nD τ) (owing c l) W
              ∗ (((c : Thread nD τ).loc cc0_stg1_0) ↦{fullShare} (oM.access (xRect h)).write (Elt F) fo (chunk X h 6 c) Finset.univ)) -∗ Q ⟨⟩)
          -∗ wp frame (wpE (defs₀ (F := F)) 𝒱₀ (c : Thread nD τ) none) Set.univ
              (receive sM (Memref.isWhole_whole _) rM (Memref.isWhole_whole _) cc0_scratch2 cc0_scratch3 h s >>= fun r => storeOut oM h (g r)) Q) := by
  refine (wp_last X K c h s l hl W g hg fo (Q := Q) (fun _ u => .ret u)).trans ?_
  iintro H Hk
  iapply H
  iintro %W %r H
  rw [wp_ret]
  imodintro
  iapply Hk $$ %W
  iexact H

/-! ## The exchanges one after another -/

/-- The exchange that `n` more follow. -/
def nth (n : ℕ) : Fin 6 := Fin.ofNat 6 (5 - n)
/-- The exchanges of both halves from the last `n`. -/
def later : ℕ → List Ex
  | 0 => []
  | n + 1 => (0, nth n) :: (1, nth n) :: later n

/-- From the first exchange on, all of them follow. -/
theorem later_six : later 6 = exList := rfl
/-- The exchange that `n + 1` more follow is just before the one that `n` more follow. -/
theorem nth_val (n : ℕ) (hn : n + 1 ≤ 5) : (nth (n + 1)).val + 1 = (nth n).val := by
  unfold nth
  simp only [Fin.ofNat]
  rw [Nat.mod_eq_of_lt (by omega), Nat.mod_eq_of_lt (by omega)]
  omega
/-- An exchange comes before all that follow it. -/
theorem level_lt (n : ℕ) (hn : n < 5) (h : Fin 2) : ∀ y ∈ later (n + 1), exLevel (h, nth (n + 1)) < exLevel y :=
  (by decide : ∀ n : Fin 5, ∀ h : Fin 2, ∀ y ∈ later (n.val + 1), exLevel (h, nth (n.val + 1)) < exLevel y) ⟨n, hn⟩ h

/-- A block after an exchange. -/
def step (d : Dev nD) (s : Fin 6) (v : FVec F S1024x128 .f32) (r : Vec F S1x1x1024x128 .bf16) : FVec F S1024x128 .f32 :=
  mergeAfter (devWord d) s (keep (devWord d) (exBit s) (exDir s) v r)

/-- The program once both halves wait for the exchange that `n` more follow. -/
def rounds (d : Dev nD) : ℕ → FVec F S1024x128 .f32 → FVec F S1024x128 .f32 → Prog (TpuEff nD τ sig (Elt F) Λ₀ .tc) PUnit
  | 0, a, b =>
    receive sM (Memref.isWhole_whole _) rM (Memref.isWhole_whole _) cc0_scratch2 cc0_scratch3 0 (nth 0) >>= fun r =>
    storeOut oM 0 (step d (nth 0) a r) >>= fun _ =>
    receive sM (Memref.isWhole_whole _) rM (Memref.isWhole_whole _) cc0_scratch2 cc0_scratch3 1 (nth 0) >>= fun r =>
    storeOut oM 1 (step d (nth 0) b r)
  | n + 1, a, b =>
    receive sM (Memref.isWhole_whole _) rM (Memref.isWhole_whole _) cc0_scratch2 cc0_scratch3 0 (nth (n + 1)) >>= fun r =>
    send sM (Memref.isWhole_whole _) rM (Memref.isWhole_whole _) cc0_scratch2 cc0_scratch3 d 0 (nth n) (step d (nth (n + 1)) a r) >>= fun _ =>
    receive sM (Memref.isWhole_whole _) rM (Memref.isWhole_whole _) cc0_scratch2 cc0_scratch3 1 (nth (n + 1)) >>= fun r' =>
    send sM (Memref.isWhole_whole _) rM (Memref.isWhole_whole _) cc0_scratch2 cc0_scratch3 d 1 (nth n) (step d (nth (n + 1)) b r') >>= fun _ =>
    rounds d n (step d (nth (n + 1)) a r) (step d (nth (n + 1)) b r')

/-- The program, once the device is known. -/
def plan (d : Dev nD) : Prog (TpuEff nD τ sig (Elt F) Λ₀ .tc) PUnit :=
  loadX xM 0 >>= fun x0 =>
  meet d >>= fun _ =>
  send sM (Memref.isWhole_whole _) rM (Memref.isWhole_whole _) cc0_scratch2 cc0_scratch3 d 0 0 (localSort (devWord d) x0) >>= fun _ =>
  loadX xM 1 >>= fun x1 =>
  send sM (Memref.isWhole_whole _) rM (Memref.isWhole_whole _) cc0_scratch2 cc0_scratch3 d 1 0 (localSort (devWord d) x1) >>= fun _ =>
  rounds d 5 (localSort (devWord d) x0) (localSort (devWord d) x1)

/-- The kernel's body is the plan, once it has read the device's identifier. -/
theorem body_plan : body (F := F) xM oM sM (Memref.isWhole_whole _) rM (Memref.isWhole_whole _) cc0_scratch2 cc0_scratch3
    = Prog.lift .deviceId >>= fun d => plan d := rfl

/-- The exchanges from both halves waiting for the one that `n` more follow. -/
theorem wp_rounds (c : Dev nD) (Q : PUnit → sProp 𝕄) (n : ℕ) (hn : n ≤ 5) (W : Waits sig Unit) (fo : Buf (Elt F) ((c : Thread nD τ).loc cc0_stg1_0)) :
    iprop(records X K ∗ levAts L lv ∗ waiting c (0, nth n) ∗ waiting c (1, nth n) ∗ bigSepL (later n) (need c) ∗ owes (c : Thread nD τ) (owing c (later n)) W
        ∗ (((c : Thread nD τ).loc cc0_stg1_0) ↦{fullShare} fo))
      ⊢ iprop((∀ W, iprop(bigSepL (later (n + 1)) (left c) ∗ ((∃ f, sbufPts c 0 f) ∗ ∃ f, sbufPts c 1 f) ∗ owes (c : Thread nD τ) 0 W
              ∗ (((c : Thread nD τ).loc cc0_stg1_0) ↦{fullShare} outAt X c)) -∗ Q ⟨⟩)
          -∗ wp frame (wpE (defs₀ (F := F)) 𝒱₀ (c : Thread nD τ) none) Set.univ
              (rounds c n (chunk X 0 (nth n).val c) (chunk X 1 (nth n).val c)) Q) := by
  induction n generalizing W with
  | zero =>
    rw [rounds, later]
    iintro ⟨#HR, #Hlev, Hw0, Hw1, -, HO, Ho⟩ Hk
    iapply (wp_last X K c 0 (nth 0) [] (fun _ h => absurd h List.not_mem_nil) W (fun r => step c (nth 0) (chunk X 0 (nth 0).val c) r)
      (fun r hr => next_chunk X c (0, nth 0) _ rfl r hr) fo) $$ [Hw0 HO Ho]
    · isplitr; · iexact HR
      isplitr; · iexact Hlev
      isplitl [Hw0]; · iexact Hw0
      isplitl [HO]; · iexact HO
      iexact Ho
    iintro %W %r ⟨Hl0, Hs0, HO, Ho⟩
    iapply (wp_end X K c 1 (nth 0) [] (fun _ h => absurd h List.not_mem_nil) W (fun r => step c (nth 0) (chunk X 1 (nth 0).val c) r)
      (fun r hr => next_chunk X c (1, nth 0) _ rfl r hr) _) $$ [Hw1 HO Ho]
    · isplitr; · iexact HR
      isplitr; · iexact Hlev
      isplitl [Hw1]; · iexact Hw1
      isplitl [HO]; · iexact HO
      iexact Ho
    iintro %W ⟨Hl1, Hs1, HO, Ho⟩
    rw [write_halves]
    iapply Hk $$ %W
    rw [later, later, bigSepL_cons', bigSepL_singleton]
    isplitl [Hl0 Hl1]
    · isplitl [Hl0]; · iexact Hl0
      iexact Hl1
    isplitl [Hs0 Hs1]
    · isplitl [Hs0]; · iexact Hs0
      iexact Hs1
    isplitl [HO]; · iexact HO
    iexact Ho
  | succ n ih =>
    have e (h : Fin 2) (r : Vec F S1x1x1024x128 .bf16)
        (hr : shapeCast S1024x128 r shapeCasts_S1x1x1024x128_S1024x128 = brought X c (h, nth (n + 1))) :
        step c (nth (n + 1)) (chunk X h (nth (n + 1)).val c) r = chunk X h (nth n).val c :=
      (next_chunk X c (h, nth (n + 1)) _ rfl r hr).trans (by rw [nth_val n hn])
    have hlt := level_lt n (by omega)
    rw [rounds, later, bigSepL_cons', bigSepL_cons']
    iintro ⟨#HR, #Hlev, Hw0, Hw1, ⟨Hn0, Hn1, Hn⟩, HO, Ho⟩ Hk
    iapply (wp_round X K c 0 (nth (n + 1)) (nth n) ((1, nth n) :: later n) (hlt 0) W
      (fun r => step c (nth (n + 1)) (chunk X 0 (nth (n + 1)).val c) r) (e 0)) $$ [Hw0 Hn0 HO]
    · isplitr; · iexact HR
      isplitr; · iexact Hlev
      isplitl [Hw0]; · iexact Hw0
      isplitl [Hn0]; · iexact Hn0
      iexact HO
    iintro %W %r ⟨%hr, Hl0, Hw0, HO⟩
    rw [e 0 r hr]
    iapply (wp_round X K c 1 (nth (n + 1)) (nth n) (later n) (fun y hy => hlt 1 y (List.mem_cons_of_mem _ hy)) W
      (fun r => step c (nth (n + 1)) (chunk X 1 (nth (n + 1)).val c) r) (e 1)) $$ [Hw1 Hn1 HO]
    · isplitr; · iexact HR
      isplitr; · iexact Hlev
      isplitl [Hw1]; · iexact Hw1
      isplitl [Hn1]; · iexact Hn1
      iexact HO
    iintro %W %r' ⟨%hr', Hl1, Hw1, HO⟩
    rw [e 1 r' hr']
    iapply (ih (by omega) W) $$ [Hw0 Hw1 Hn HO Ho]
    · isplitr; · iexact HR
      isplitr; · iexact Hlev
      isplitl [Hw0]; · iexact Hw0
      isplitl [Hw1]; · iexact Hw1
      isplitl [Hn]; · iexact Hn
      isplitl [HO]; · iexact HO
      iexact Ho
    iintro %W ⟨Hl, Hrest⟩
    iapply Hk $$ %W
    isplitl [Hl0 Hl1 Hl]
    · rw [show later (n + 1 + 1) = (0, nth (n + 1)) :: (1, nth (n + 1)) :: later (n + 1) from rfl, bigSepL_cons', bigSepL_cons']
      isplitl [Hl0]; · iexact Hl0
      isplitl [Hl1]; · iexact Hl1
      iexact Hl
    iexact Hrest

end Steps

end Cert.KernelIdeal.Sort
-- ==== Proof.KernelIdeal.Sound.lean ====
/-
  THE BODY OBLIGATION: from the staged block, the scratch buffers and the protocol's share, the body leaves the result in the output's
  staging buffer, the scratch buffers whole again and its semaphores at zero.
-/
module

public import proofs.«01_k».proof.Proof.KernelIdeal.Body

@[expose] public section

noncomputable section

namespace Cert.KernelIdeal.Sort

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s block of `x`, as staged. -/
def xstg (c : Dev nD) : FVec F S1024x256 .f32 :=
  (win0_0.blk (0 : Fin 1)).view.read (Elt F) ((s₀ m ρ).mem ((c : Thread nD τ).loc main_arg0))

/-- The two scratch buffers, at some contents. -/
def scratch (c : Dev nD) : sProp 𝕄 :=
  iprop((∃ f, ((c : Thread nD τ).loc cc0_scratch0) ↦{fullShare} f) ∗ ∃ f, ((c : Thread nD τ).loc cc0_scratch1) ↦{fullShare} f)

/-- The kernel's own semaphores at zero. -/
def zeros (c : Dev nD) : sProp 𝕄 :=
  iprop((bigSep Finset.univ fun x : Ex => iprop(semVal (sendCell c x) 0 ∗ semVal (recvCell c x) 0)) ∗ semVal (barCell c) 0)

/-- What a device holds besides its staging buffers when its body starts. -/
def Φ₀ (c : Dev nD) : sProp 𝕄 := iprop(start (xstg m ρ) c ∗ scratch c)
/-- And when it ends: the buffers, and its semaphores at zero. -/
def Φ₁ (c : Dev nD) : sProp 𝕄 := iprop(scratch c ∗ zeros c)

/-- The arrays before and after, what a device holds, and what it owes, at the start and the end of its one grid step. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- To own a whole buffer at contents `Y` is to hold its elements at a function equal to `Y`. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer at its contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-- What the body of device `c` starts from. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the body of device `c` ends with: the argument as it was and the result in its staging buffer. -/
def bodyPost (c : Dev nD) : sProp 𝕄 :=
  iprop(Φ₁ c ∗ (dats m ρ 0 c).owesAt () t0_0.succ ∗ stg c cc0_stg0_0 (xstg m ρ c) ∗ stg c cc0_stg1_0 (outAt (xstg m ρ) c))

section Run

variable (X : Dev nD → FVec F S1024x256 .f32) (K : Dev nD × (Unit ⊕ (Bool × Ex)) → ℕ)

/-- What all exchanges need, from the places handed over, the rights and the credits. -/
theorem needs_intro (c : Dev nD) :
    iprop((bigSep Finset.univ fun x : Ex => iprop(∃ f, slotPts (peer x.2 c) x f)) ∗ (bigSep Finset.univ fun x : Ex => rights c x)
      ∗ bigSep Finset.univ fun x : Ex => cred (tallyAt (recvCell c x) () N)) ⊢ (iprop(need c (0, 0) ∗ need c (1, 0) ∗ bigSepL (later 5) (need c)) : sProp 𝕄) := by
  rw [← bigSep_sep', ← bigSep_sep', bigSep_univ_eq_bigSepL exList (by decide) (by decide)]
  exact Entails.refl _

/-- What all exchanges leave is the receive buffer and the semaphores at zero. -/
theorem lefts_elim (c : Dev nD) :
    (bigSepL (later (5 + 1)) (left c) : sProp 𝕄) ⊢ iprop((bigSep Finset.univ fun x : Ex => iprop(∃ f, slotPts c x f))
      ∗ bigSep Finset.univ fun x : Ex => iprop(semVal (sendCell c x) 0 ∗ semVal (recvCell c x) 0)) := by
  rw [← bigSep_sep', bigSep_univ_eq_bigSepL exList (by decide) (by decide)]
  exact Entails.refl _

/-- The body from its share of the protocol. -/
theorem wp_body (c : Dev nD) (W : Waits sig Unit) (fo : Buf (Elt F) ((c : Thread nD τ).loc cc0_stg1_0)) (Q : PUnit → sProp 𝕄) :
    iprop(ghost X K c ∗ cred (tallyAt (barCell c) () 3) ∗ (bigSep Finset.univ fun x : Ex => cred (tallyAt (recvCell c x) () N)) ∗ levAts L lv
        ∗ scratch c ∗ owes (c : Thread nD τ) (O₀ c) W
        ∗ (((c : Thread nD τ).loc cc0_stg0_0) ↦{fullShare} (X c : Buf (Elt F) ((c : Thread nD τ).loc cc0_stg0_0))) ∗ (((c : Thread nD τ).loc cc0_stg1_0) ↦{fullShare} fo))
      ⊢ iprop((∀ W, iprop(Φ₁ c ∗ owes (c : Thread nD τ) 0 W
            ∗ (((c : Thread nD τ).loc cc0_stg0_0) ↦{fullShare} (X c : Buf (Elt F) ((c : Thread nD τ).loc cc0_stg0_0)))
            ∗ (((c : Thread nD τ).loc cc0_stg1_0) ↦{fullShare} outAt X c)) -∗ Q ⟨⟩)
        -∗ wp frame (wpE (defs₀ (F := F)) 𝒱₀ (c : Thread nD τ) none) Set.univ
          (cc0_body xM (Memref.isWhole_whole _) oM (Memref.isWhole_whole _) sM (Memref.isWhole_whole _) rM (Memref.isWhole_whole _) cc0_scratch2 cc0_scratch3) Q) := by
  rw [body_eq, body_plan]
  simp only [Prog.lift, Prog.bind_op, Prog.bind_ret, wp_deviceId]
  unfold plan loadX ghost linear scratch
  simp only [Prog.lift, Prog.bind_op, Prog.bind_ret]
  iintro ⟨⟨#HR, Hat, Ht, Hr⟩, Hcb, Hcr, #Hlev, ⟨⟨%f0, Hs⟩, ⟨%f1, Hv⟩⟩, HO, Hx, Ho⟩ Hk
  ihave Hv := (slots_of_whole c f1) $$ Hv
  ihave Hs := (halves_of_whole c f0) $$ Hs
  icases Hs with ⟨Hs0, Hs1⟩
  iapply (wp_load 𝒱₀ (c : Thread nD τ) none Set.univ (m := xM) (Finset.subset_univ _)) $$ Hx; iintro Hx
  iapply (wp_meet X K c W) $$ [Hat Ht Hv Hcb HO]
  · isplitr; · iexact HR
    isplitr; · iexact Hlev
    isplitl [Hat]; · iexact Hat
    isplitl [Ht]; · iexact Ht
    isplitl [Hv]; · iexact Hv
    isplitl [Hcb]; · iexact Hcb
    iexact HO
  iintro %W ⟨Hz, Hd, HO⟩
  ihave Hn := (needs_intro c) $$ [Hd Hr Hcr]
  · isplitl [Hd]; · iexact Hd
    isplitl [Hr]; · iexact Hr
    iexact Hcr
  icases Hn with ⟨Hn0, Hn1, Hn⟩
  iapply (wp_start X K c (0, 0) ((1, 0) :: later 5) (localSort (devWord c) (half 0 (X c))) rfl W) $$ [Hs0 Hn0 HO]
  · isplitr; · iexact HR
    isplitl [Hs0]; · iexact Hs0
    isplitl [Hn0]; · iexact Hn0
    iexact HO
  iintro ⟨Hw0, HO⟩
  iapply (wp_load 𝒱₀ (c : Thread nD τ) none Set.univ (m := xM) (Finset.subset_univ _)) $$ Hx; iintro Hx
  iapply (wp_start X K c (1, 0) (later 5) (localSort (devWord c) (half 1 (X c))) rfl W) $$ [Hs1 Hn1 HO]
  · isplitr; · iexact HR
    isplitl [Hs1]; · iexact Hs1
    isplitl [Hn1]; · iexact Hn1
    iexact HO
  iintro ⟨Hw1, HO⟩
  iapply (wp_rounds X K c Q 5 (le_refl _) W fo) $$ [Hw0 Hw1 Hn HO Ho]
  · isplitr; · iexact HR
    isplitr; · iexact Hlev
    isplitl [Hw0]; · iexact Hw0
    isplitl [Hw1]; · iexact Hw1
    isplitl [Hn]; · iexact Hn
    isplitl [HO]; · iexact HO
    iexact Ho
  iintro %W ⟨Hl, Hs, HO, Ho⟩
  ihave Hl := (lefts_elim c) $$ Hl
  icases Hl with ⟨Hv, Hzs⟩
  iapply Hk $$ %W
  unfold Φ₁ scratch zeros
  isplitl [Hs Hv Hzs Hz]
  · isplitl [Hs Hv]
    · isplitl [Hs]
      · iapply (whole_of_halves c); iexact Hs
      · iapply (whole_of_slots c); iexact Hv
    isplitl [Hzs]; · iexact Hzs
    iexact Hz
  isplitl [HO]; · iexact HO
  isplitl [Hx]; · iexact Hx
  iexact Ho

end Run

/-- The body from what the pipeline gives it to what the pipeline takes back. -/
theorem sound_body (c : Dev nD) :
    bodyPre m ρ c ⊢ wp frame (wpE (defs₀ (F := F)) 𝒱₀ (c : Thread nD τ) none) Set.univ
      (cc0_body xM (Memref.isWhole_whole _) oM (Memref.isWhole_whole _) sM (Memref.isWhole_whole _) rM (Memref.isWhole_whole _) cc0_scratch2 cc0_scratch3)
      (fun _ => bodyPost m ρ c) := by
  unfold bodyPre Φ₀ start
  iintro ⟨⟨⟨⟨%K, Hg⟩, Hcb, Hcr, Hlev⟩, Hsc⟩, HO, ⟨%d0, %g0, %hg0, Hx⟩, ⟨%d1, %g1, %hg1, Ho⟩⟩
  have hx : g0 = xstg m ρ c := by rw [hg0]; unfold Dat.before; rw [if_pos (fetch0_0 t0_0)]; rfl
  subst hx
  unfold Dat.owesAt Pipeline.owesWithin
  icases HO with ⟨%W, %hW, HO⟩
  rw [show (dats m ρ 0 c).owed t0_0.castSucc = O₀ c from rfl]
  iapply (wp_body (xstg m ρ) K c W g1 fun _ => bodyPost m ρ c) $$ [Hg Hcb Hcr Hlev Hsc HO Hx Ho]
  · isplitl [Hg]; · iexact Hg
    isplitl [Hcb]; · iexact Hcb
    isplitl [Hcr]; · iexact Hcr
    isplitl [Hlev]; · iexact Hlev
    isplitl [Hsc]; · iexact Hsc
    isplitl [HO]; · iexact HO
    isplitl [Hx]; · iexact Hx
    iexact Ho
  iintro %W ⟨HΦ, HO, Hx, Ho⟩
  unfold bodyPost Dat.owesAt Pipeline.owesWithin
  rw [show (dats m ρ 0 c).owed t0_0.succ = 0 from rfl]
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KernelIdeal.Sort
-- ==== Proof.KernelIdeal.Run.lean ====
/-
  THE LAUNCH AND THE RUN: the cells' ghost state made and dealt to the devices, the credit of what is owed at launch, and the run of
  @main to the computed contents.
-/
module

public import proofs.«01_k».proof.Proof.KernelIdeal.Sound
public import Idealize.ShloMosaic.Lib.Pipeline.CollectiveSegs

@[expose] public section

noncomputable section

namespace Cert.KernelIdeal.Sort

open Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and their tokens -/

/-- The kernel's own semaphores are its scoped ones, each named once, apart from those of the staging. -/
theorem ownSemFacts : Pipeline.OwnSemFacts cfg0.spec osem := by decide +kernel

/-- The protocol's semaphores are different from each other. -/
theorem csem_injective : ∀ k k' : Unit ⊕ (Bool × Ex), csem k = csem k' → k = k' := by decide +kernel

/-- So are its cells, over all devices. -/
theorem kcell_injective : Function.Injective kcell := by
  rintro ⟨c, k⟩ ⟨c', k'⟩ h
  exact Prod.ext (congrArg (fun g : GSem nD τ sig => g.1.1) h) (csem_injective k k' (congrArg Prod.snd h))

/-- All cells of the protocol. -/
def cells : Finset (GSem nD τ sig) := Finset.univ.map ⟨kcell, kcell_injective⟩

/-- The duties: a rendezvous cell's three, any other cell's one. -/
abbrev tokOf (cj : Dev nD × (Fin 3 ⊕ (Bool × Ex))) : GSem nD τ sig × ℕ × Fin 3 :=
  (kcell (cj.1, cj.2.elim (fun _ => .inl ()) .inr), 0, cj.2.elim id fun _ => 0)

/-- No two duties share a token. -/
theorem tokOf_injective : Function.Injective tokOf := by
  rintro ⟨c, j⟩ ⟨c', j'⟩ h
  have h1 := kcell_injective (congrArg Prod.fst h)
  have h2 : j.elim id (fun _ => (0 : Fin 3)) = j'.elim id (fun _ => 0) := congrArg (fun t : GSem nD τ sig × ℕ × Fin 3 => t.2.2) h
  have h3 := congrArg Prod.fst h1
  have h4 := congrArg Prod.snd h1
  rcases j with j | j <;> rcases j' with j' | j'
  · exact Prod.ext h3 (congrArg Sum.inl h2)
  · exact absurd h4 (by simp)
  · exact absurd h4 (by simp)
  · exact Prod.ext h3 (congrArg (Sum.inr : Bool × Ex → Fin 3 ⊕ (Bool × Ex)) (Sum.inr_injective h4))

/-- The tokens of all duties. -/
def tokens : Finset (GSem nD τ sig × ℕ × Fin 3) := Finset.univ.map ⟨tokOf, tokOf_injective⟩

/-- The launch's ghost element: the staging pipeline's and the protocol's. -/
def u₀ : UU := (initOf (Pipeline.cells cfgs cellOf_inj) (Pipeline.launchToks cfgs cellOf_inj), initOf cells tokens)

/-- The cells of a device one by one. -/
theorem bigSep_cells (Φ : Unit ⊕ (Bool × Ex) → sProp 𝕄) :
    bigSep Finset.univ Φ = iprop(Φ (.inl ()) ∗ bigSep Finset.univ fun x : Ex => iprop(Φ (.inr (false, x)) ∗ Φ (.inr (true, x)))) := by
  rw [bigSep_univ_sum, bigSep_univ_prod, bigSep_univ_eq_bigSepL [()] (by decide) (by decide), bigSepL_singleton,
    bigSep_univ_eq_bigSepL [false, true] (by decide) (by decide), bigSepL_cons', bigSepL_singleton, bigSep_sep']
  rfl

/-- The duty tokens of the cells of device `c`. -/
def toks (c : Dev nD) : sProp 𝕄 :=
  iprop((bigSep Finset.univ fun d : Fin 3 => dutyTok ER (barCell c) 0 d)
    ∗ bigSep Finset.univ fun x : Ex => iprop(dutyTok ER (sendCell c x) 0 0 ∗ dutyTok ER (recvCell c x) 0 0))
/-- The duty tokens device `c` pays with. -/
def payToks (c : Dev nD) : sProp 𝕄 :=
  iprop((bigSep Finset.univ fun d : Fin 3 => dutyTok ER (barCell (near d c)) 0 d)
    ∗ bigSep Finset.univ fun x : Ex => iprop(dutyTok ER (sendCell c x) 0 0 ∗ dutyTok ER (recvCell (peer x.2 c) x) 0 0))

/-- A family over devices and a second index, taken at the peers. -/
theorem bigSep_peers {I : Type} [Fintype I] (s : I → Fin 6) (Φ : I → Dev nD → sProp 𝕄) :
    bigSep Finset.univ (fun c : Dev nD => bigSep Finset.univ fun i : I => Φ i c)
      = bigSep Finset.univ fun c : Dev nD => bigSep Finset.univ fun i : I => Φ i (peer (s i) c) := by
  rw [bigSep_univ_comm, bigSep_univ_comm fun (c : Dev nD) (i : I) => Φ i (peer (s i) c)]
  exact bigSep_congr fun i _ => bigSep_univ_equiv (swap (s i)) (Φ i)

/-- The tokens dealt to those who pay with them. -/
theorem toks_around : (bigSep Finset.univ fun c : Dev nD => (toks c : sProp 𝕄)) = bigSep Finset.univ fun c : Dev nD => payToks c := by
  unfold toks payToks
  simp only [bigSep_sep']
  rw [bigSep_peers nearEx fun (d : Fin 3) c => (dutyTok ER (barCell c) 0 d : sProp 𝕄),
    bigSep_peers (fun x : Ex => x.2) fun (x : Ex) c => (dutyTok ER (recvCell c x) 0 0 : sProp 𝕄)]

section Alloc

variable (X : Dev nD → FVec F S1024x256 .f32)

/-- What the launch element deals device `c`. -/
def G (c : Dev nD) : sProp 𝕄 :=
  iprop((bigSep Finset.univ fun k : Unit ⊕ (Bool × Ex) => roundState ER (Rd X) (kcell (c, k)) 0)
    ∗ (bigSep Finset.univ fun k : Unit ⊕ (Bool × Ex) => iprop(atPos ER (kcell (c, k)) 0 ∅ 0 ∗ reached ER (kcell (c, k)) 0)) ∗ toks c)

/-- What the allocation makes of it. -/
def G' (c : Dev nD) : sProp 𝕄 := iprop(∃ K, ghost X K c)

/-- The protocol's part of the launch element becomes every device's deal. -/
theorem fund_cells : BI.own (ER (initOf cells tokens)) ⊢ (|==> bigSep Finset.univ (G X) : sProp 𝕄) := by
  have hX (Φ : GSem nD τ sig → sProp 𝕄) :
      bigSep cells Φ = bigSep Finset.univ fun c : Dev nD => bigSep Finset.univ fun k : Unit ⊕ (Bool × Ex) => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    refine bigSep_congr fun c _ => ?_
    unfold toks
    rw [bigSep_univ_sum, bigSep_univ_prod, bigSep_univ_eq_bigSepL [false, true] (by decide) (by decide), bigSepL_cons', bigSepL_singleton, bigSep_sep']
    rfl
  iintro HX
  imod (Rounds.fund ER (Rd X) cells tokens) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are the send and receive cells at zero. -/
theorem ownSems0_eq (c : Dev nD) : (Pipeline.ownSems0 (Ix := Unit) (Name := ℕ) (U := UU) (Lvl := ℕ) (Val := Elt F) (τ := τ) osem c : sProp 𝕄)
    = bigSep Finset.univ fun x : Ex => iprop(semVal (sendCell c x) 0 ∗ semVal (recvCell c x) 0) := by
  unfold Pipeline.ownSems0
  rw [bigSep_univ_prod, bigSep_univ_eq_bigSepL [false, true] (by decide) (by decide), bigSepL_cons', bigSepL_singleton, bigSep_sep']
  rfl

/-- The one semaphore outside the kernel's scope is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together they are all cells of the protocol on a device, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Unit ⊕ (Bool × Ex) => semVal (kcell (c, k)) 0 : sProp 𝕄) := by
  rw [ownSems0_eq, unscopedSems0_eq, bigSep_cells]
  iintro ⟨HS, HB⟩
  isplitl [HB]; · iexact HB
  iexact HS

/-- On one device the counters at zero and the deal give every cell its invariant. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Unit ⊕ (Bool × Ex) => semVal (kcell (c, k)) 0)
        ∗ bigSep Finset.univ fun k : Unit ⊕ (Bool × Ex) => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's positions and the tokens it pays with are its linear share. -/
theorem linear_eq (c : Dev nD) :
    (iprop((bigSep Finset.univ fun k : Unit ⊕ (Bool × Ex) => atPos ER (kcell (c, k)) 0 ∅ 0) ∗ payToks c) : sProp 𝕄) ⊢ linear c := by
  unfold payToks linear rights
  rw [bigSep_cells]
  simp only [bigSep_sep']
  iintro ⟨⟨HB, HS, HV⟩, HtB, HtS, HtV⟩
  isplitl [HB]; · iexact HB
  isplitl [HtB]; · iexact HtB
  isplitl [HtS HtV]
  · isplitl [HtS]; · iexact HtS
    iexact HtV
  isplitl [HS]; · iexact HS
  iexact HV

/-- The shared records and a device's linear share are what its body needs of the protocol. -/
theorem ghost_intro (K : Dev nD × (Unit ⊕ (Bool × Ex)) → ℕ) (c : Dev nD) : iprop(records X K ∗ linear c) ⊢ G' X c := by
  unfold G' ghost
  iintro H
  iexists K
  iexact H

/-- Over all devices the tokens go to those who pay with them, and every device gets the records of all cells. -/
theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', toks_around,
    ← bigSep_univ_prod (fun ck : Dev nD × (Unit ⊕ (Bool × Ex)) => iprop(∃ κ : ℕ, cellInv ER (Rd X) κ (kcell ck))),
    bigSep_congr (s := Finset.univ) (fun (c : Dev nD) _ => bigSep_sep' Finset.univ
      (fun k : Unit ⊕ (Bool × Ex) => (atPos ER (kcell (c, k)) 0 ∅ 0 : sProp 𝕄)) (fun k => reached ER (kcell (c, k)) 0)),
    bigSep_sep', ← bigSep_univ_prod (fun ck : Dev nD × (Unit ⊕ (Bool × Ex)) => (reached ER (kcell ck) 0 : sProp 𝕄))]
  iintro ⟨HI, ⟨Hat, #HR⟩, Htok⟩
  ihave HK := (BI.bigSep_exists_pi Finset.univ (fun (ck : Dev nD × (Unit ⊕ (Bool × Ex))) (κ : ℕ) => (cellInv ER (Rd X) κ (kcell ck) : sProp 𝕄))) $$ HI
  icases HK with ⟨%K, #HI⟩
  iapply (bigSep_with_persistent (R := records X K) fun c _ => ghost_intro X K c)
  isplitr
  · unfold records; isplitl; · iexact HI
    iexact HR
  · iapply ((Entails.of_eq (bigSep_sep' Finset.univ
        (fun c : Dev nD => bigSep Finset.univ fun k : Unit ⊕ (Bool × Ex) => (atPos ER (kcell (c, k)) 0 ∅ 0 : sProp 𝕄)) payToks).symm).trans
      (bigSep_mono fun c _ => linear_eq c))
    isplitl [Hat]; · iexact Hat
    iexact Htok

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Alloc

/-! ## The launch credit -/

/-- Barrier cells are equal only on the same device. -/
theorem bar_eq_iff {a b : Dev nD} : Iff (barCell a = barCell b) (a = b) :=
  ⟨fun h => Fin.ext (congrArg (fun g : GSem nD τ sig => g.1.1.val) h), fun h => h ▸ rfl⟩

/-- Receive cells are equal only on the same device and for the same exchange. -/
theorem recv_eq_iff {a b : Dev nD} {x y : Ex} : Iff (recvCell a x = recvCell b y) (a = b ∧ x = y) := by
  constructor
  · intro h
    have h' := kcell_injective (a₁ := (a, .inr (true, x))) (a₂ := (b, .inr (true, y))) h
    simpa using h'
  · rintro ⟨rfl, rfl⟩; rfl

/-- A barrier cell is no receive cell. -/
theorem bar_ne_recv (a b : Dev nD) (x : Ex) : barCell a ≠ recvCell b x := fun h => by
  have h' := kcell_injective (a₁ := (a, .inl ())) (a₂ := (b, .inr (true, x))) h
  simp at h'

/-- A signal of device `d` to its peer `i` counts on device `c`'s barrier if that peer is `c`. -/
theorem tally_bar (i : Fin 3) (d c : Dev nD) : (tallyAt (barCell (near i d)) () 1 : CellTallies nD τ sig Unit) (barCell c) () = if d = near i c then 1 else 0 := by
  rw [tallyAt_apply]
  refine if_congr ?_ rfl rfl
  rw [bar_eq_iff]
  constructor
  · rintro ⟨rfl, -⟩; exact (peer_peer _ _).symm
  · rintro rfl; exact ⟨(peer_peer _ _).symm, rfl⟩

/-- It counts on no receive cell. -/
theorem tally_bar_recv (i : Fin 3) (d c : Dev nD) (x : Ex) : (tallyAt (barCell (near i d)) () 1 : CellTallies nD τ sig Unit) (recvCell c x) () = 0 := by
  rw [tallyAt_apply, if_neg fun h => bar_ne_recv _ _ _ h.1.symm]

/-- A copy of device `d` in exchange `y` counts on device `c`'s cell of exchange `x` if `y` is `x` and `d` is the peer. -/
theorem tally_recv (d c : Dev nD) (x y : Ex) : (tallyAt (recvCell (peer y.2 d) y) () N : CellTallies nD τ sig Unit) (recvCell c x) ()
    = if y = x then (if d = peer x.2 c then N else 0) else 0 := by
  rw [tallyAt_apply, ← ite_and]
  refine if_congr ?_ rfl rfl
  rw [recv_eq_iff]
  constructor
  · rintro ⟨⟨rfl, rfl⟩, -⟩; exact ⟨rfl, (peer_peer _ _).symm⟩
  · rintro ⟨rfl, rfl⟩; exact ⟨⟨(peer_peer _ _).symm, rfl⟩, rfl⟩

/-- The copies owed count on no barrier. -/
theorem owing_bar (d c : Dev nD) (l : List Ex) : owing d l (barCell c) () = 0 :=
  Nat.eq_zero_of_not_pos fun h => by
    obtain ⟨x, -, e⟩ := owing_pos h
    exact bar_ne_recv _ _ _ e

/-- The copies owed on a receive cell are those of its exchange, by the peer. -/
theorem owing_recv (d c : Dev nD) (x : Ex) (l : List Ex) : owing d l (recvCell c x) () = l.count x * if d = peer x.2 c then N else 0 := by
  induction l with
  | nil => rw [List.count_nil, Nat.zero_mul]; rfl
  | cons y l ih =>
    rw [owing, Pi.add_apply, Finsupp.add_apply, ih, tally_recv, List.count_cons, Nat.add_mul]
    refine congrArg _ ?_
    by_cases h : y = x
    · subst h; simp
    · simp [h]

/-- What device `d` owes at launch on `c`'s barrier: one signal if it is one of the three peers. -/
theorem owed_bar (d c : Dev nD) : O₀ d (barCell c) ()
    = (if d = near 2 c then 1 else 0) + (if d = near 1 c then 1 else 0) + (if d = near 0 c then 1 else 0) := by
  unfold O₀ O₂ O₁
  rw [Pi.add_apply, Finsupp.add_apply, Pi.add_apply, Finsupp.add_apply, Pi.add_apply, Finsupp.add_apply, tally_bar, tally_bar, tally_bar, owing_bar, Nat.zero_add]

/-- What device `d` owes at launch on a receive cell of `c`: the copy, if it is the peer. -/
theorem owed_recv (d c : Dev nD) (x : Ex) : O₀ d (recvCell c x) () = if d = peer x.2 c then N else 0 := by
  unfold O₀ O₂ O₁
  rw [Pi.add_apply, Finsupp.add_apply, Pi.add_apply, Finsupp.add_apply, Pi.add_apply, Finsupp.add_apply, tally_bar_recv, tally_bar_recv, tally_bar_recv, owing_recv,
    show exList.count x = 1 from (by decide : ∀ x : Ex, exList.count x = 1) x, Nat.one_mul, Nat.add_zero]

/-- All devices together owe a barrier three signals. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (near 2 c) fun _ => 1, Finset.sum_ite_eq' Finset.univ (near 1 c) fun _ => 1, Finset.sum_ite_eq' Finset.univ (near 0 c) fun _ => 1,
    if_pos (Finset.mem_univ _), if_pos (Finset.mem_univ _), if_pos (Finset.mem_univ _)]

/-- All devices together owe a receive cell one copy. -/
theorem launch_recv (c : Dev nD) (x : Ex) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ (peer x.2 c) fun _ => N,
    if_pos (Finset.mem_univ _)]

/-- The semaphores waited on that others pay to. -/
abbrev paid : Unit ⊕ Ex → SemLoc sig := fun k => csem (k.map id fun x => (true, x))
/-- They are different from each other. -/
theorem paid_injective : Function.Injective paid := fun a b h => (by decide +kernel : ∀ a b : Unit ⊕ Ex, paid a = paid b → a = b) a b h

/-- A device's launch credit: three signals on its barrier and one copy on each receive cell. -/
theorem creds (c : Dev nD) :
    (Pipeline.launchCred O₀ c : sProp 𝕄) ⊢ iprop(cred (tallyAt (barCell c) () 3) ∗ bigSep Finset.univ fun x : Ex => cred (tallyAt (recvCell c x) () N)) := by
  unfold Pipeline.launchCred
  refine (bigSep_subset (Finset.subset_univ (Finset.univ.map ⟨paid, paid_injective⟩))).trans ?_
  rw [bigSep_map, bigSep_univ_sum, bigSep_univ_eq_bigSepL [()] (by decide) (by decide), bigSepL_singleton]
  exact BI.sep_mono (Entails.of_eq (congrArg cred (launch_bar c))) (bigSep_mono fun x _ => Entails.of_eq (congrArg cred (launch_recv c x)))

/-! ## The run -/

variable (m : (ℓ : Loc nD τ sig) → Buf (Elt F) ℓ) (ρ : Dev nD → PrngReg)

/-- The arrays are held whole. -/
theorem share_eq (c : Dev nD) (w : Fin cfg0.W) : (dats m ρ 0 c).share w = fullShare := by unfold Dat.share; split <;> rfl

/-- What the launch hands a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop(start (xstg m ρ) c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With the scratch buffers it is all that the device holds at its first grid step. -/
theorem phi0_intro (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What a device holds at the end returns the semaphores at zero and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨Hr, Hz, HzB⟩
  isplitl [HzB]; · iexact HzB
  isplitl [Hz]; · iexact Hz
  iexact Hr

/-- The staging copies' semaphores lie at level 0. -/
theorem stage_level (w : Fin cfg0.W) (s) : ∀ c : Dev nD, lv ((c : Thread nD τ), .dma ((cfg0.win w).sem s)) () = 0 := by
  fin_cases w <;> fin_cases s <;> decide +kernel

/-- The waits of the staging copies are allowed at every step. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_level w s c) _ (by
      rcases t with ⟨_ | _, ht⟩
      · exact Or.inl rfl
      · exact Or.inr rfl)

/-- Window `w`'s array on device `c` after the run. -/
def finalA (c : Dev nD) (w : Fin cfg0.W) : Buf (Elt F) ((cfg0.win w).arr.view.loc (c : Thread nD τ)) := (dats m ρ 0 c).arrAt w cfg0.N

/-- What holds after the run: on every device each window's array has its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters @main on eight devices terminates under weakly fair scheduling, with the arrays at the
    computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_cells (xstg m ρ)) $$ HX with HG
      imodintro
      isplitl [HP] <;> iassumption)
    (hglob := glob (xstg m ρ))
    (hA := fun _ _ => rfl) (hpf := fun _ k => k.elim0)
    (X := start (xstg m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Sort
-- ==== Proof.Certificate.Frames.lean ====
/-
  THE FRAMES. Each of the three programs runs from any memory with zero counters, leaves its argument as it was, and ends with every semaphore
  at zero.
-/
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel's frame: its run, read at the argument, with the counters. -/
theorem frame_kernel : Cert.quiescent_Kernel (hKernel := Cert.Kernel.Gen.facts) := fun m ρ _ =>
  (θ_run _ _ _).mono (fun _ h => ⟨fun c => (h.1 c (0 : Fin 2)).trans (Cert.Kernel.Sort.finalA_x m ρ c), h.2⟩)
    (Cert.Kernel.Sort.run_main (F := Bits) m ρ)

/-- The frame of the kernel read at the extended reals. -/
theorem frame_ideal : Cert.quiescent_KernelIdeal (hKernelIdeal := Cert.KernelIdeal.Gen.facts) := fun m ρ _ =>
  (θ_run _ _ _).mono (fun _ h => ⟨fun c => (h.1 c (0 : Fin 2)).trans (Cert.KernelIdeal.Sort.finalA_x m ρ c), h.2⟩)
    (Cert.KernelIdeal.Sort.run_main (F := Ideal) m ρ)

/-- The reference's frame; it has no semaphore, so the counters are at zero. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

end Cert.Proof
-- ==== Proof.Value.Stages.lean ====
/-
  ONE STAGE OF A BLOCK, READ. Over the extended reals a compare-exchange stage of a block of 1024 rows leaves at a row the greater or the
  lesser of the row's element and that of its partner, the row whose number differs in one bit.
-/
module

public import proofs.«01_k».proof.Proof.KernelIdeal.Net
public import Idealize.ShloMosaic.Lib.Pipeline.Value
public import Idealize.ShloMosaic.Lib.ValueIdx
public import Idealize.ShloMosaic.Lib.SortNet.Printed

@[expose] public section

noncomputable section

namespace Cert.KernelIdeal.Sort

open Idealize.ShloMosaic
open Cert.KernelIdeal.Gen

/-- The rows of one column of a block, as the places of a network. -/
def rowsOf (k : Fin 128) : SortNet.Column S1024x128 0 10 where
  col i := ix2 i k
  size_eq := rfl
  coord _ := rfl
  other _ _ b hb := by
    match b with
    | ⟨0, _⟩ => exact absurd rfl hb
    | ⟨1, _⟩ => rfl

/-- The rows of a mask. -/
def rowsOfMask : SortNet.Column S1024x1 0 10 where
  col i := ix2 i 0
  size_eq := rfl
  coord _ := rfl
  other _ _ b hb := by
    match b with
    | ⟨0, _⟩ => exact absurd rfl hb
    | ⟨1, _⟩ => rfl

/-- The rows of one group of a block reshaped into groups. -/
def rowsOfGroup (g : ℕ) {p w : ℕ} (hw : w = 2 ^ p) (q : Fin g) (k : Fin 128) : SortNet.Column (⟨3, ![g, w, 128]⟩ : Shape) 1 p where
  col i := ix3 q (i.cast hw.symm) k
  size_eq := hw
  coord _ := rfl
  other _ _ b hb := by
    match b with
    | ⟨0, _⟩ => rfl
    | ⟨1, _⟩ => exact absurd rfl hb
    | ⟨2, _⟩ => rfl

/-- A mask of rows, widened, reads at an element the mask at its row. -/
theorem wide_apply (b : IVec S1024x1 1) (r : Fin 1024) (k : Fin 128) : wide b (ix2 r k) = b (ix2 r 0) := by
  unfold wide
  rw [shapeCast_self]
  refine broadcastTo_apply b _ (ix2 r k) (ix2 r 0) fun a => ?_
  match a with
  | ⟨0, _⟩ => rfl
  | ⟨1, _⟩ => rfl

/-- A row's bit. -/
theorem rowBit_apply (j : BitVec 32) {s : ℕ} (hj : j.toNat = 2 ^ s) (r : Fin 1024) :
    rowBit j (ix2 r 0) = BitVec.ofBool (r.val.testBit s) := by
  have h := SortNet.upper_apply rowsOfMask (by decide) rows (fun i => rowsOfMask.iota_apply .tc _ i) j hj r
  refine Eq.trans h (congrArg BitVec.ofBool ?_)
  have := SortNet.and_two_pow_eq_zero_iff_testBit r.val s
  cases hb : r.val.testBit s <;> simp [this, hb]

/-- The partners found by rolling the rows up and down are those at distance `2 ^ s`. -/
theorem partnerNear_apply (up down : BitVec 32) {s : ℕ} (hs : s < 10) (hd : down.toNat = 2 ^ s) (hu : up.toNat = 2 ^ 10 - 2 ^ s)
    (v : FVec Ideal S1024x128 .f32) (r : Fin (2 ^ 10)) (k : Fin 128) :
    partnerNear up down v (ix2 r k) = v (ix2 (SortNet.partner 10 s r) k) :=
  SortNet.printedPartner_apply (rowsOf k) hs rotates_S1024x128_d0 (wide (rowBit down))
    (fun i => (wide_apply _ i k).trans (SortNet.upper_apply rowsOfMask (by decide) rows (fun i => rowsOfMask.iota_apply .tc _ i) down hd i))
    down up hd hu v r

/-- A block in groups of `2 ^ (s + 1)` rows, read at a row of a group. -/
theorem ungroup_apply {α : Type} {g w s : ℕ} (hw : w = 2 ^ (s + 1)) (x : (⟨3, ![g, w, 128]⟩ : Shape).Idx → α)
    (h : (⟨3, ![g, w, 128]⟩ : Shape).ShapeCasts S1024x128) (q : Fin g) (i : Fin w) (k : Fin 128) (r : Fin 1024) (hr : r.val = q.val * w + i.val) :
    shapeCast S1024x128 x h (ix2 r k) = x (ix3 q i k) :=
  shapeCast_apply x h _ _ (by
    rw [Shape.rowMajor_val_three, Shape.rowMajor_val_two]
    show (q.val * w + i.val) * 128 + k.val = r.val * 128 + k.val
    rw [hr])

/-- A block put in groups, read at a row of a group. -/
theorem group_apply {α : Type} {g w : ℕ} (x : S1024x128.Idx → α)
    (h : S1024x128.ShapeCasts (⟨3, ![g, w, 128]⟩ : Shape)) (q : Fin g) (i : Fin w) (k : Fin 128) (r : Fin 1024) (hr : r.val = q.val * w + i.val) :
    shapeCast ⟨3, ![g, w, 128]⟩ x h (ix3 q i k) = x (ix2 r k) :=
  shapeCast_apply x h _ _ (by
    rw [Shape.rowMajor_val_three, Shape.rowMajor_val_two]
    show r.val * 128 + k.val = (q.val * w + i.val) * 128 + k.val
    rw [hr])

/-- The partners found by rolling within groups of `2 ^ (s + 1)` rows are those at distance `2 ^ s`. -/
theorem partnerFar_apply (g w : ℕ) (j : BitVec 32) (h₁ : S1024x128.ShapeCasts ⟨3, ![g, w, 128]⟩) (h₂ : (⟨3, ![g, w, 128]⟩ : Shape).Rotates 1 none)
    (h₃ : (⟨3, ![g, w, 128]⟩ : Shape).ShapeCasts S1024x128) {s : ℕ} (hs : s < 10) (hj : j.toNat = 2 ^ s) (hw : w = 2 ^ (s + 1))
    (hg : g = 2 ^ (10 - (s + 1))) (v : FVec Ideal S1024x128 .f32) (r : Fin (2 ^ 10)) (k : Fin 128) :
    partnerFar g w j h₁ h₂ h₃ v (ix2 r k) = v (ix2 (SortNet.partner 10 s r) k) := by
  subst hw hg
  have hp : s + 1 ≤ 10 := hs
  have hgw : 2 ^ (10 - (s + 1)) * 2 ^ (s + 1) = 2 ^ 10 := by rw [← Nat.pow_add, Nat.sub_add_cancel hp]
  obtain ⟨q, i, rfl⟩ : ∃ q i, r = SortNet.chunkPos hp q i :=
    ⟨⟨r.val / 2 ^ (s + 1), Nat.div_lt_of_lt_mul (by rw [Nat.mul_comm, hgw]; exact r.isLt)⟩, ⟨r.val % 2 ^ (s + 1), Nat.mod_lt _ (Nat.two_pow_pos _)⟩,
      Fin.ext (Nat.div_add_mod' _ _).symm⟩
  rw [SortNet.partner_chunkPos hp (Nat.lt_succ_self s)]
  unfold partnerFar
  rw [ungroup_apply rfl _ h₃ q i k _ rfl]
  refine Eq.trans ?_ (group_apply v h₁ q (SortNet.partner (s + 1) s i) k _ rfl)
  by_cases hi : i.val &&& 2 ^ s = 0
  · exact (rowsOfGroup _ rfl q k).rotate_of_clear (Nat.lt_succ_self s) j (by rw [hj]; omega) _ h₂ i hi
  · exact (rowsOfGroup _ rfl q k).rotate_of_set (Nat.lt_succ_self s) j hj _ h₂ i hi

/-- The partners at distance `2 ^ s`. -/
theorem partnerAt_apply (v : FVec Ideal S1024x128 .f32) (r : Fin (2 ^ 10)) (k : Fin 128) :
    ∀ s : ℕ, s < 10 → partnerAt s v (ix2 r k) = v (ix2 (SortNet.partner 10 s r) k)
  | 0, h | 1, h | 2, h => partnerNear_apply _ _ h rfl rfl v r k
  | 3, h | 4, h | 5, h | 6, h | 7, h | 8, h | 9, h => partnerFar_apply _ _ _ _ _ _ h rfl rfl rfl v r k
  | s + 10, h => absurd h (by omega)

/-- The word of bit `s` is `2 ^ s`. -/
theorem bitWord_toNat : ∀ s : ℕ, s < 10 → (bitWord s).toNat = 2 ^ s
  | 0, _ | 1, _ | 2, _ | 3, _ | 4, _ | 5, _ | 6, _ | 7, _ | 8, _ | 9, _ => rfl
  | s + 10, h => absurd h (by omega)

/-- A stage, at a row and column. -/
theorem stage_apply (dir : IVec S1024x1 1) {s : ℕ} (hs : s < 10) (v : FVec Ideal S1024x128 .f32) (r : Fin (2 ^ 10)) (k : Fin 128) (d : Bool)
    (hd : dir (ix2 r 0) = BitVec.ofBool d) :
    stage dir s v (ix2 r k)
      = if r.val.testBit s ^^ d then max (v (ix2 r k)) (v (ix2 (SortNet.partner 10 s r) k)) else min (v (ix2 r k)) (v (ix2 (SortNet.partner 10 s r) k)) := by
  show Scalar.select (wide _ (ix2 r k)) (max _ (partnerAt s v (ix2 r k))) (min _ (partnerAt s v (ix2 r k))) = _
  rw [partnerAt_apply v r k s hs, wide_apply, SortNet.xori_apply_ofBool _ _ _ _ _ (rowBit_apply _ (bitWord_toNat s hs) r) hd, SortNet.select_ofBool]

end Cert.KernelIdeal.Sort
-- ==== Proof.Value.Network.lean ====
/-
  THE KERNEL IS A BITONIC SORT. Take one column of the eight devices' blocks, laid end to end: 8192 places, place `i` being row `i mod 1024` of
  device `i / 1024`. Over the extended reals a stage inside the blocks, and an exchange between devices, is one stage of a bitonic sorting
  network on those places; all of the kernel's stages together are the sort on `2 ^ 13` places.
-/
module

public import proofs.«01_k».proof.Proof.Value.Stages
public import proofs.«01_k».proof.Proof.KernelIdeal.Protocol
public import Idealize.ShloMosaic.Lib.SortNet.Sorts

@[expose] public section

noncomputable section

namespace Cert.KernelIdeal.Sort

open Idealize.ShloMosaic
open Cert.KernelIdeal.Gen

/-- The device that holds place `i`. -/
def devOf (i : Fin (2 ^ 13)) : Dev nD := ⟨i.val / 2 ^ 10, Nat.div_lt_of_lt_mul i.isLt⟩
/-- The row of its block at which it holds it. -/
def rowOf (i : Fin (2 ^ 13)) : Fin (2 ^ 10) := ⟨i.val % 2 ^ 10, Nat.mod_lt _ (Nat.two_pow_pos _)⟩
/-- Column `k` of the blocks `V`, end to end. -/
def column (V : Dev nD → FVec Ideal S1024x128 .f32) (k : Fin 128) : Fin (2 ^ 13) → EReal := fun i => V (devOf i) (ix2 (rowOf i) k)

/-! ## Bits of a place -/

/-- The low ten bits of a place are those of its row. -/
theorem testBit_rowOf {s : ℕ} (hs : s < 10) (i : Fin (2 ^ 13)) : (rowOf i).val.testBit s = i.val.testBit s := by
  show (i.val % 2 ^ 10).testBit s = _
  rw [Nat.testBit_mod_two_pow]; simp [hs]

/-- The bits from the tenth on are those of its device. -/
theorem testBit_devOf (b : ℕ) (i : Fin (2 ^ 13)) : (devOf i).val.testBit b = i.val.testBit (10 + b) := by
  show (i.val / 2 ^ 10).testBit b = _
  rw [Nat.testBit_div_two_pow, Nat.add_comm]

/-- A partner at a distance below 1024 is on the same device. -/
theorem devOf_partner_near {s : ℕ} (hs : s < 10) (i : Fin (2 ^ 13)) : devOf (SortNet.partner 13 s i) = devOf i :=
  Fin.ext (Nat.eq_of_testBit_eq fun b => by
    rw [testBit_devOf, testBit_devOf, SortNet.partner_val (by omega), Nat.testBit_xor, Nat.testBit_two_pow]
    have : s ≠ 10 + b := by omega
    simp [this])

/-- It is in the partner of the row. -/
theorem rowOf_partner_near {s : ℕ} (hs : s < 10) (i : Fin (2 ^ 13)) : rowOf (SortNet.partner 13 s i) = SortNet.partner 10 s (rowOf i) :=
  Fin.ext (Nat.eq_of_testBit_eq fun b => by
    rw [SortNet.partner_val hs, Nat.testBit_xor]
    show (_ % 2 ^ 10).testBit b = ((i.val % 2 ^ 10).testBit b ^^ _)
    rw [SortNet.partner_val (by omega), Nat.testBit_mod_two_pow, Nat.testBit_mod_two_pow, Nat.testBit_xor, Nat.testBit_two_pow]
    by_cases hb : b < 10
    · simp [hb]
    · have : s ≠ b := by omega
      simp [hb, this])

/-- A partner at a greater distance is in the same row. -/
theorem rowOf_partner_far {b : ℕ} (hb : b < 3) (i : Fin (2 ^ 13)) : rowOf (SortNet.partner 13 (10 + b) i) = rowOf i :=
  Fin.ext (Nat.eq_of_testBit_eq fun t => by
    show (_ % 2 ^ 10).testBit t = (i.val % 2 ^ 10).testBit t
    rw [SortNet.partner_val (by omega), Nat.testBit_mod_two_pow, Nat.testBit_mod_two_pow, Nat.testBit_xor, Nat.testBit_two_pow]
    by_cases ht : t < 10
    · have : 10 + b ≠ t := by omega
      simp [ht, this]
    · simp [ht])

/-- It is on the device whose number differs in the one bit. -/
theorem devOf_partner_far {b : ℕ} (hb : b < 3) (i : Fin (2 ^ 13)) : (devOf (SortNet.partner 13 (10 + b) i)).val = (devOf i).val ^^^ 2 ^ b :=
  Nat.eq_of_testBit_eq fun t => by
    rw [Nat.testBit_xor, testBit_devOf, testBit_devOf, SortNet.partner_val (by omega), Nat.testBit_xor, Nat.testBit_two_pow, Nat.testBit_two_pow]
    by_cases h : b = t
    · simp [h]
    · have : 10 + b ≠ 10 + t := by omega
      simp [h]

/-! ## One stage -/

/-- The direction of level `l` at a place: the places with bit `l + 1` set are sorted downwards. -/
def low (l : ℕ) : Fin (2 ^ 13) → Bool := fun i => decide (i.val &&& 2 ^ (l + 1) = 0) == false

/-- The direction of level `l` is bit `l + 1` of the place. -/
theorem low_eq (l : ℕ) (i : Fin (2 ^ 13)) : low l i = i.val.testBit (l + 1) := by
  have := SortNet.and_two_pow_eq_zero_iff_testBit i.val (l + 1)
  unfold low
  cases h : i.val.testBit (l + 1) <;> simp [this, h]

/-- What a stage of level `l` leaves at a place. -/
theorem apply_stage_low {s l : ℕ} (hs : s < 13) (hsl : s ≤ l) (v : Fin (2 ^ 13) → EReal) (i : Fin (2 ^ 13)) :
    SortNet.Network.apply (SortNet.stage 13 s (low l)) v i
      = if i.val.testBit s ^^ i.val.testBit (l + 1) then max (v i) (v (SortNet.partner 13 s i)) else min (v i) (v (SortNet.partner 13 s i)) := by
  rw [← SortNet.stage_upperXor, SortNet.apply_stage_select hs _ fun j => SortNet.upperXor_partner hs _ j (SortNet.sizeClear_partner hs hsl false j)]
  have hk : SortNet.upperXor s (low l) i = (i.val.testBit s ^^ i.val.testBit (l + 1)) := by
    unfold SortNet.upperXor
    rw [low_eq]
    have := SortNet.and_two_pow_eq_zero_iff_testBit i.val s
    cases h : i.val.testBit s <;> simp [this, h]
  rw [hk]
  generalize v i = x
  generalize v (SortNet.partner 13 s i) = y
  cases (i.val.testBit s ^^ i.val.testBit (l + 1))
  · by_cases h : y < x
    · simp [h, min_eq_right h.le]
    · simp [h, min_eq_left (not_lt.mp h)]
  · by_cases h : y < x
    · simp [h, max_eq_left h.le]
    · simp [h, max_eq_right (not_lt.mp h)]

/-- A stage inside the blocks is the network's, where the kernel's direction is that of the level. -/
theorem column_stage {s l : ℕ} (hs : s < 10) (hsl : s ≤ l) (dir : Dev nD → IVec S1024x1 1)
    (hdir : ∀ i, dir (devOf i) (ix2 (rowOf i) 0) = BitVec.ofBool (i.val.testBit (l + 1))) (V : Dev nD → FVec Ideal S1024x128 .f32) (k : Fin 128) :
    column (fun c => stage (dir c) s (V c)) k = SortNet.Network.apply (SortNet.stage 13 s (low l)) (column V k) := by
  funext i
  rw [apply_stage_low (by omega) hsl]
  show stage (dir (devOf i)) s (V (devOf i)) (ix2 (rowOf i) k) = _
  unfold column
  rw [stage_apply _ hs _ _ _ _ (hdir i), testBit_rowOf hs, devOf_partner_near hs, rowOf_partner_near hs]

/-- So are the stages at the distances `2 ^ (n - 1)`, …, `1`. -/
theorem column_level {l : ℕ} (dir : Dev nD → IVec S1024x1 1)
    (hdir : ∀ i, dir (devOf i) (ix2 (rowOf i) 0) = BitVec.ofBool (i.val.testBit (l + 1))) (k : Fin 128) :
    ∀ (n : ℕ), n ≤ 10 → n ≤ l + 1 → ∀ V : Dev nD → FVec Ideal S1024x128 .f32,
      column (fun c => level (dir c) n (V c)) k = SortNet.Network.apply ((List.range n).reverse.flatMap fun s => SortNet.stage 13 s (low l)) (column V k)
  | 0, _, _, _ => rfl
  | n + 1, h, h', V => by
    have e := column_level dir hdir k n (by omega) (by omega) fun c => stage (dir c) n (V c)
    rw [column_stage (by omega) (by omega) dir hdir] at e
    rw [List.range_succ, List.reverse_append, List.flatMap_append, SortNet.Network.apply_append]
    exact e.trans (by rw [List.reverse_singleton, List.flatMap_singleton])

/-! ## The sort of the blocks -/

/-- A bit of the device's word is that bit of its number. -/
theorem devWord_bit : ∀ (b : Fin 4) (c : Dev nD), Scalar.cmpi .ne (Scalar.andi (devWord c) (bitWord b.val)) 0#32 = BitVec.ofBool (c.val.testBit b.val) := by
  decide +kernel

/-- The mask of a device's bit, at the row of a place, is a high bit of the place. -/
theorem devBit_apply (b : Fin 4) (i : Fin (2 ^ 13)) :
    devBit (devWord (devOf i)) (bitWord b.val) (ix2 (rowOf i) 0) = BitVec.ofBool (i.val.testBit (10 + b.val)) :=
  (devWord_bit b (devOf i)).trans (congrArg BitVec.ofBool (testBit_devOf b.val i))

/-- The mask of a row's bit, at the row of a place, is a low bit of the place. -/
theorem rowBit_place (j : BitVec 32) {s : ℕ} (hs : s < 10) (hj : j.toNat = 2 ^ s) (i : Fin (2 ^ 13)) :
    rowBit j (ix2 (rowOf i) 0) = BitVec.ofBool (i.val.testBit s) :=
  (rowBit_apply j hj (rowOf i)).trans (congrArg BitVec.ofBool (testBit_rowOf hs i))

/-- The kernel's direction at level `l` of a block's sort is bit `l + 1` of the place. -/
theorem sortDir_apply (i : Fin (2 ^ 13)) :
    ∀ l : ℕ, l < 10 → sortDir (devWord (devOf i)) l (ix2 (rowOf i) 0) = BitVec.ofBool (i.val.testBit (l + 1))
  | 0, _ | 1, _ | 2, _ | 3, _ | 4, _ | 5, _ | 6, _ | 7, _ | 8, _ => rowBit_place _ (by decide) rfl i
  | 9, _ => devBit_apply 0 i
  | l + 10, h => absurd h (by omega)

/-- The sort of every block is the network's first ten levels. -/
theorem column_sortLevels (V : Dev nD → FVec Ideal S1024x128 .f32) (k : Fin 128) :
    ∀ l : ℕ, l ≤ 10 → column (fun c => sortLevels (devWord c) l (V c)) k = SortNet.Network.apply (SortNet.levelsNet 13 false l) (column V k)
  | 0, _ => rfl
  | l + 1, h => by
    rw [SortNet.levelsNet_succ, SortNet.Network.apply_append, ← column_sortLevels V k l (by omega)]
    exact column_level (fun c => sortDir (devWord c) l) (fun i => sortDir_apply i l (by omega)) k (l + 1) h le_rfl fun c => sortLevels (devWord c) l (V c)

/-! ## The exchanges -/

/-- The level of the sort that an exchange belongs to. -/
def sortLevel : Fin 6 → ℕ
  | 0 => 10 | 1 => 11 | 2 => 11 | 3 => 12 | 4 => 12 | 5 => 12
/-- The bit of the device's number in which its two sides differ. -/
def exPlace : Fin 6 → ℕ
  | 0 => 0 | 1 => 1 | 2 => 0 | 3 => 2 | 4 => 1 | 5 => 0

/-- An exchange is over one of three bits, at a distance that its level has. -/
theorem exPlace_lt : ∀ e : Fin 6, exPlace e < 3 ∧ 10 + exPlace e ≤ sortLevel e := by decide
/-- The peer's number differs from the device's in the exchange's bit. -/
theorem peer_val : ∀ (e : Fin 6) (c : Dev nD), (peer e c).val = c.val ^^^ 2 ^ exPlace e := by decide +kernel
/-- Whether a device keeps the greater of two: by its bit of the exchange and its bit of the direction. -/
theorem exBit_word : ∀ (e : Fin 6) (c : Dev nD),
    Scalar.xori (Scalar.cmpi .ne (Scalar.andi (devWord c) (exBit e)) 0#32) (Scalar.cmpi .ne (Scalar.andi (devWord c) (exDir e)) 0#32)
      = BitVec.ofBool (c.val.testBit (exPlace e) ^^ c.val.testBit (sortLevel e - 9)) := by
  decide +kernel

/-- The partner of a place in an exchange is on the peer. -/
theorem devOf_peer (e : Fin 6) (i : Fin (2 ^ 13)) : devOf (SortNet.partner 13 (10 + exPlace e) i) = peer e (devOf i) :=
  Fin.ext ((devOf_partner_far (exPlace_lt e).1 i).trans (peer_val e (devOf i)).symm)

/-- What the devices keep in an exchange. -/
def kept (e : Fin 6) (V : Dev nD → FVec Ideal S1024x128 .f32) : Dev nD → FVec Ideal S1024x128 .f32 :=
  fun c => keepWith (devWord c) (exBit e) (exDir e) (V c) (sent (V (peer e c)))

/-- In an exchange a device keeps, at every element, the greater or the lesser of its own and its peer's. -/
theorem keepWith_apply (e : Fin 6) (c : Dev nD) (v w : FVec Ideal S1024x128 .f32) (j : S1024x128.Idx) :
    keepWith (devWord c) (exBit e) (exDir e) v (sent w) j
      = if c.val.testBit (exPlace e) ^^ c.val.testBit (sortLevel e - 9) then max (v j) (w j) else min (v j) (w j) := by
  show Scalar.select (IntOp.xori (BitVec.ofBool (decide (v j < w j))) (Scalar.xori _ _)) (v j) (w j) = _
  rw [exBit_word, SortNet.ofBool_xor, SortNet.select_ofBool]
  generalize v j = x
  generalize w j = y
  cases (c.val.testBit (exPlace e) ^^ c.val.testBit (sortLevel e - 9))
  · by_cases h : x < y
    · simp [h, min_eq_left h.le]
    · simp [h, min_eq_right (not_lt.mp h)]
  · by_cases h : x < y
    · simp [h, max_eq_right h.le]
    · simp [h, max_eq_left (not_lt.mp h)]

/-- An exchange is a stage of the network. -/
theorem column_kept (e : Fin 6) (V : Dev nD → FVec Ideal S1024x128 .f32) (k : Fin 128) :
    column (kept e V) k = SortNet.Network.apply (SortNet.stage 13 (10 + exPlace e) (low (sortLevel e))) (column V k) := by
  have hp := exPlace_lt e
  funext i
  rw [apply_stage_low (by omega) hp.2]
  unfold column kept
  rw [keepWith_apply, devOf_peer, rowOf_partner_far hp.1, testBit_devOf, testBit_devOf, show 10 + (sortLevel e - 9) = sortLevel e + 1 by omega]

/-! ## The whole -/

/-- The stages at the distances below `2 ^ n`, the farthest first. -/
def below (l n : ℕ) : SortNet.Network (2 ^ 13) := (List.range n).reverse.flatMap fun s => SortNet.stage 13 s (low l)

/-- The stages below `2 ^ (n + 1)` are the one at `2 ^ n` and then those below it. -/
theorem below_succ (l n : ℕ) : below l (n + 1) = SortNet.stage 13 n (low l) ++ below l n := by
  unfold below
  rw [List.range_succ, List.reverse_append, List.reverse_singleton, List.singleton_append, List.flatMap_cons]

/-- Level `l` of the network is its stages at the distances below `2 ^ (l + 1)`. -/
theorem levelNet_eq (l : ℕ) : SortNet.levelNet 13 false l = below l (l + 1) := rfl

/-- The merge inside the blocks is the rest of a level. -/
theorem column_merge (b : Fin 4) (V : Dev nD → FVec Ideal S1024x128 .f32) (k : Fin 128) :
    column (fun c => localMerge (devWord c) (bitWord b.val) (V c)) k
      = SortNet.Network.apply (below (9 + b.val) 10) (column V k) :=
  column_level (fun c => devBit (devWord c) (bitWord b.val))
    (fun i => (devBit_apply b i).trans (by rw [show 10 + b.val = 9 + b.val + 1 by omega])) k 10 le_rfl (by omega) V

/-- What the six exchanges and the merges after them leave in a column is the column sorted. -/
theorem column_chunk (X : Dev nD → FVec Ideal S1024x256 .f32) (h : Fin 2) (k : Fin 128) :
    column (chunk X h 6) k = SortNet.Network.apply (SortNet.sortNet 13 false) (column (fun c => half h (X c)) k) := by
  have h0 : column (chunk X h 0) k = SortNet.Network.apply (SortNet.levelsNet 13 false 10) (column (fun c => half h (X c)) k) := by
    rw [← column_sortLevels _ k 10 le_rfl]
    show column (fun c => sortLevels (devWord c) 10 (shapeCast S1024x128 (half h (X c)) _)) k = _
    simp only [shapeCast_self]
  have e1 : chunk X h 1 = fun c => localMerge (devWord c) (bitWord (1 : Fin 4).val) (kept 0 (chunk X h 0) c) := rfl
  have e3 : chunk X h 3 = fun c => localMerge (devWord c) (bitWord (2 : Fin 4).val) (kept 2 (kept 1 (chunk X h 1)) c) := rfl
  have e6 : chunk X h 6 = fun c => localMerge (devWord c) (bitWord (3 : Fin 4).val) (kept 5 (kept 4 (kept 3 (chunk X h 3))) c) := rfl
  have l10 : column (chunk X h 1) k = SortNet.Network.apply (SortNet.levelNet 13 false 10) (column (chunk X h 0) k) := by
    rw [e1, column_merge, column_kept, ← SortNet.Network.apply_append, levelNet_eq, below_succ]
    rfl
  have l11 : column (chunk X h 3) k = SortNet.Network.apply (SortNet.levelNet 13 false 11) (column (chunk X h 1) k) := by
    rw [e3, column_merge, column_kept, column_kept, ← SortNet.Network.apply_append, ← SortNet.Network.apply_append, levelNet_eq, below_succ, below_succ]
    rfl
  have l12 : column (chunk X h 6) k = SortNet.Network.apply (SortNet.levelNet 13 false 12) (column (chunk X h 3) k) := by
    rw [e6, column_merge, column_kept, column_kept, column_kept, ← SortNet.Network.apply_append, ← SortNet.Network.apply_append,
      ← SortNet.Network.apply_append, levelNet_eq, below_succ, below_succ, below_succ]
    rfl
  rw [SortNet.sortNet_eq_levelsNet, SortNet.levelsNet_succ, SortNet.levelsNet_succ, SortNet.levelsNet_succ, SortNet.Network.apply_append,
    SortNet.Network.apply_append, SortNet.Network.apply_append, ← h0, ← l10, ← l11, ← l12]

end Cert.KernelIdeal.Sort
-- ==== Proof.Value.Reference.lean ====
/-
  THE REFERENCE'S SORT, READ. Over the extended reals the reference's sort leaves in each column the column's elements in ascending order. So
  does the bitonic network, and there is only one such order: the two agree.
-/
module

public import proofs.«01_k».proof.Proof.Gen.ReferenceIdeal
public import Idealize.ShloMosaic.Lib.SortFacts
public import Idealize.ShloMosaic.Lib.SortNet.Sorts
public import Idealize.ShloMosaic.Lib.SortNet.HostSort
public import Idealize.ShloMosaic.Lib.ValueIdx
public import Idealize.ShloMosaic.PureOps.Ideal.Laws

@[expose] public section

noncomputable section

namespace Cert.ReferenceIdeal.Sort

open Idealize.ShloMosaic Idealize.ShloMosaic.ValueIdx
open Cert.ReferenceIdeal.Gen

/-- The comparator asks whether the first number is the lesser. -/
theorem comparator_eq (l r : EReal) : comparator_f32_d0 (F := Ideal) l r = BitVec.ofBool (decide (l < r)) := by
  have hz : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h0 : (FloatOps.ofBits (F := Ideal) .f32 0x00000000#32 : EReal) = 0 := Ideal.ofBits_zero_f32
    rw [h0]
    show Scalar.select (BitVec.ofBool (decide (x ≠ x))) _ (Scalar.select (BitVec.ofBool (decide (x = 0))) 0 x) = x
    by_cases h : x = 0 <;> simp [Scalar.select, h]
  unfold comparator_f32_d0
  dsimp only
  rw [hz l, hz r]
  rfl

/-- Two ascending rearrangements of the same numbers are equal. -/
theorem ascending_unique {n : ℕ} (f : Fin n → EReal) (σ τ : Equiv.Perm (Fin n)) (hσ : Monotone (f ∘ σ)) (hτ : Monotone (f ∘ τ)) : f ∘ σ = f ∘ τ := by
  refine List.ofFn_injective (List.Perm.eq_of_pairwise (le := (· ≤ ·)) (fun _ _ _ _ h h' => le_antisymm h h') ?_ ?_
    ((Equiv.Perm.ofFn_comp_perm σ f).trans (Equiv.Perm.ofFn_comp_perm τ f).symm))
  · exact List.pairwise_ofFn.mpr fun _ _ h => hσ h.le
  · exact List.pairwise_ofFn.mpr fun _ _ h => hτ h.le

/-- Which of two places holds the lesser number. -/
def lesser {n : ℕ} (f : Fin n → EReal) (k k' : Fin n) : Bool := decide (f k < f k')

/-- The numbers by a stable sort of their places are the numbers run through the network. -/
theorem sortedFrom_eq_network (p : ℕ) (f : Fin (2 ^ p) → EReal) (i : Fin (2 ^ p)) :
    f (sortedFrom (lesser f) i) = SortNet.Network.apply (SortNet.sortNet p false) f i := by
  obtain ⟨σ, hσ⟩ := SortNet.Network.exists_perm (SortNet.sortNet p false) f
  have hm := SortNet.sortNet_apply_monotone p f
  rw [hσ] at hm
  let τ : Equiv.Perm (Fin (2 ^ p)) := Equiv.ofBijective (sortedFrom (lesser f)) ⟨sortedFrom_injective _, sortedFrom_surjective _⟩
  have hm' : Monotone (f ∘ τ) := by
    refine monotone_iff_forall_lt.mpr fun i j hij => ?_
    have := sortedFrom_noInversion (lesser f) (lesser f) (fun a b h => decide_eq_false (not_lt.mpr (of_decide_eq_true h).le)) (fun _ _ h => h)
      (fun a b d h h' => decide_eq_false (not_lt.mpr ((not_lt.mp (of_decide_eq_false h')).trans (not_lt.mp (of_decide_eq_false h))))) i j hij
    exact not_lt.mp (of_decide_eq_false this)
  rw [hσ]
  exact congrFun (ascending_unique f τ σ hm' hm) i

variable (x : S8192x256.Idx → EReal) (c : Fin 256)

/-- Column `c` of the array. -/
def col (i : Fin (2 ^ 13)) : EReal := x (ix2 (i : Fin 8192) c)

/-- Which of two rows of the column is the lesser. -/
def before (k k' : Fin (2 ^ 13)) : Bool := lesser (col x c) k k'

/-- The reference's sort, at a place of a column, is the column at that place of the sorted order of its rows. -/
theorem sort_apply (i : Fin (2 ^ 13)) :
    Host.sort S8192x256 0 (comparator_f32_d0 (F := Ideal)) x (ix2 (i : Fin 8192) c) = col x c (sortedFrom (before x c) i) := by
  have ha : ∀ k : Fin 8192, (ix2 (i : Fin 8192) c : S8192x256.Idx).along (0 : Fin 2) k = ix2 k c := fun k => funext fun a => by
    match a with
    | ⟨0, _⟩ => exact Function.update_self _ _ _
    | ⟨1, _⟩ => exact Function.update_of_ne (fun h => absurd (congrArg Fin.val h) Nat.one_ne_zero) _ _
  have hb : (fun k k' : Fin 8192 => comparator_f32_d0 (F := Ideal) (x ((ix2 (i : Fin 8192) c : S8192x256.Idx).along (0 : Fin 2) k))
      (x ((ix2 (i : Fin 8192) c : S8192x256.Idx).along (0 : Fin 2) k')) == 1#1) = before x c := by
    funext k k'
    rw [ha, ha, comparator_eq]
    show _ = decide (x (ix2 k c) < x (ix2 k' c))
    by_cases h : x (ix2 k c) < x (ix2 k' c) <;> simp [h]
  show x ((ix2 (i : Fin 8192) c : S8192x256.Idx).along (0 : Fin 2) (sortedFrom (fun k k' : Fin 8192 =>
    comparator_f32_d0 (F := Ideal) (x ((ix2 (i : Fin 8192) c : S8192x256.Idx).along (0 : Fin 2) k))
      (x ((ix2 (i : Fin 8192) c : S8192x256.Idx).along (0 : Fin 2) k')) == 1#1) i)) = _
  rw [hb]
  exact congrArg x (ha _)

/-- The reference's column is the column run through the network. -/
theorem sort_eq_network (i : Fin (2 ^ 13)) :
    Host.sort S8192x256 0 (comparator_f32_d0 (F := Ideal)) x (ix2 (i : Fin 8192) c) = SortNet.Network.apply (SortNet.sortNet 13 false) (col x c) i :=
  (sort_apply x c i).trans (sortedFrom_eq_network 13 (col x c) i)

end Cert.ReferenceIdeal.Sort
-- ==== Proof.Certificate.Algebraic.lean ====
/-
  THE VALUE CLAIM. From blocks of one array the kernel's devices end with the blocks of that array sorted, each column for itself.
-/
module

public import proofs.«01_k».proof.Defs
public import proofs.«01_k».proof.Proof.KernelIdeal.Run
public import proofs.«01_k».proof.Proof.Value.Network
public import proofs.«01_k».proof.Proof.Value.Reference
public import proofs.«01_k».proof.Proof.Gen.ReferenceIdeal.Run

@[expose] public section

noncomputable section

namespace Cert.KernelIdeal.Sort

open Idealize.ShloMosaic Idealize.ShloMosaic.TcCoe Idealize.SL.Sem
open Cert.KernelIdeal.Gen

variable (m : (ℓ : Loc nD τ sig) → Buf (Elt Ideal) ℓ) (ρ : Dev nD → PrngReg)

/-- What the body reads on a device is its argument. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

/-- The result on a device after the run. -/
theorem finalA_o (c : Dev nD) : (finalA m ρ c (1 : Fin 2) : FVec Ideal S1024x256 .f32) = outAt (xstg m ρ) c := by
  have hz : (fun a => (win0_1.index (0 : Fin 1)) a * main_v1.ty.shape.size a) = fun _ => 0 := funext fun a => by fin_cases a <;> decide
  have hr := fun f => Memref.read_access_unit_zero (Elt Ideal) main_v1 hz (fun a => by fin_cases a <;> decide) f
  have h : (win0_1.blk (0 : Fin 1)).view.read (Elt Ideal) (finalA m ρ c (1 : Fin 2)) = outAt (xstg m ρ) c := by
    unfold finalA
    rw [show cfg0.N = ((0 : Fin 1) : Fin cfg0.N).val + 1 from rfl, (dats m ρ 0 c).arrAt_succ (1 : Fin 2) (0 : Fin 1), flush0_1 (0 : Fin 1), if_pos rfl]
    exact View.read_write_univ _ _
  exact (hr _).symm.trans h

end Cert.KernelIdeal.Sort

namespace Cert.Proof

open Idealize.ShloMosaic Idealize.ShloMosaic.TcCoe Idealize.SL.Sem
open Cert.KernelIdeal.Sort

/-- The whole array. -/
abbrev Whole : Type := (⟨2, ![8192, 256]⟩ : Shape).Idx → EReal

/-- A device's block of the whole array. -/
abbrev blockOf (c : Fin 8) (x : Whole) : (⟨2, ![1024, 256]⟩ : Shape).Idx → EReal := Layout.block ⟨2, ![1024, 256]⟩ ⟨2, ![8192, 256]⟩ 0 8 c x

/-- A column of the devices' blocks, end to end, is the whole array's column. -/
theorem column_blocks (x : Whole) (h : Fin 2) (k : Fin 128) (j : Fin 256) (hj : j.val = 128 * h.val + k.val) :
    column (fun c => half h (blockOf c x)) k = Cert.ReferenceIdeal.Sort.col x j := by
  funext i
  refine congrArg x (funext fun a => Fin.ext ?_)
  match a with
  | ⟨0, _⟩ =>
    show i.val / 1024 * 1024 + (0 + 1 * (i.val % 1024)) = i.val
    omega
  | ⟨1, _⟩ =>
    show 128 * h.val + 1 * k.val = j.val
    omega

/-- The result from the blocks of an array are the blocks of the array sorted. -/
theorem outAt_blocks (x : Whole) (c : Fin 8) :
    outAt (F := Ideal) (fun d => blockOf d x) c = blockOf c (Host.sort Cert.ReferenceIdeal.S8192x256 0 (Cert.ReferenceIdeal.comparator_f32_d0 (F := Ideal)) x) := by
  funext i
  have hr : (i 0).val < 1024 := (i 0).isLt
  have hc : (i 1).val < 256 := (i 1).isLt
  let h : Fin 2 := Fin.ofNat 2 ((i 1).val / 128)
  let k : Fin 128 := ⟨(i 1).val % 128, Nat.mod_lt _ (by decide)⟩
  let p : Fin (2 ^ 13) := ⟨c.val * 1024 + (i 0).val, by have := c.isLt; omega⟩
  let j : Fin 256 := i 1
  have hj : j.val = 128 * h.val + k.val := by
    show (i 1).val = 128 * ((i 1).val / 128 % 2) + (i 1).val % 128
    omega
  have hd : devOf p = c := Fin.ext (by show (c.val * 1024 + (i 0).val) / 1024 = c.val; omega)
  have hp : rowOf p = i 0 := Fin.ext (by show (c.val * 1024 + (i 0).val) % 1024 = (i 0).val; omega)
  have e : outAt (F := Ideal) (fun d => blockOf d x) c i = column (chunk (F := Ideal) (fun d => blockOf d x) h 6) k p := by
    unfold column
    rw [hd, hp]
    rfl
  rw [e, column_chunk, column_blocks x h k j hj, ← Cert.ReferenceIdeal.Sort.sort_eq_network]
  refine congrArg _ (funext fun a => Fin.ext ?_)
  match a with
  | ⟨0, _⟩ => rfl
  | ⟨1, _⟩ => rfl

/-- Over the extended reals device `c` ends with block `c` of the reference's result, the columns of `x` sorted, and both
programs keep their argument. -/
theorem algebraic : Cert.algebraic_KernelIdeal_ReferenceIdeal (hKernelIdeal := Cert.KernelIdeal.Gen.facts) (hReferenceIdeal := Cert.ReferenceIdeal.Gen.facts) := by
  intro m ρ m' ρ' _ hx
  refine ⟨_, (θ_run _ _ _).mono (fun r h c => ⟨?_, (h.1 c (0 : Fin 2)).trans (finalA_x m ρ c)⟩) (run_main (F := Ideal) m ρ),
    (θ_run _ _ _).mono (fun r h => h 0) (Cert.ReferenceIdeal.Value.run m' ρ')⟩
  refine ((h.1 c (1 : Fin 2)).trans (finalA_o m ρ c)).trans ?_
  rw [show xstg m ρ = _ from funext fun d => (xstg_eq m ρ d).trans (hx d)]
  exact outAt_blocks _ c

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Certificate.Frames
public import proofs.«01_k».proof.Proof.Certificate.Algebraic
public import Idealize.ShloMosaic.Adequacy
public import Idealize.ShloMosaic.Init

@[expose] public section

noncomputable section

namespace Cert.Proof

open Idealize.ShloMosaic Idealize.SL.Sem Cert.Kernel

/-- All five claims: the three programs run to the end and keep their arguments, the idealized kernel is the kernel's text,
and over the extended reals device `c` ends with block `c` of the sorted array. -/
theorem claim : Cert.Claim := ⟨Cert.Kernel.Gen.facts, Cert.KernelIdeal.Gen.facts, Cert.ReferenceIdeal.Gen.facts,
  frame_kernel, frame_ideal, frame_reference, trivial, algebraic⟩

end Cert.Proof

end
